-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v96)) (v3 : (c : Dev Cert.KernelIdeal.nD) → Buf (Elt Ideal) ((c.tc : Thread Cert.KernelIdeal.nD Cert.KernelIdeal.τ).loc Cert.KernelIdeal.main_v21)) (v4 : (c : Dev Cert.KernelIdeal.nD) → Buf (Elt Ideal) ((c.tc : Thread Cert.KernelIdeal.nD Cert.KernelIdeal.τ).loc Cert.KernelIdeal.main_v50)) (v5 : (c : Dev Cert.KernelIdeal.nD) → Buf (Elt Ideal) ((c.tc : Thread Cert.KernelIdeal.nD Cert.KernelIdeal.τ).loc Cert.KernelIdeal.main_v51)) (v6 : (c : Dev Cert.KernelIdeal.nD) → Buf (Elt Ideal) ((c.tc : Thread Cert.KernelIdeal.nD Cert.KernelIdeal.τ).loc Cert.KernelIdeal.main_v103)) (v7 : (c : Dev Cert.KernelIdeal.nD) → Buf (Elt Ideal) ((c.tc : Thread Cert.KernelIdeal.nD Cert.KernelIdeal.τ).loc Cert.KernelIdeal.main_v22)) (v8 : (c : Dev Cert.KernelIdeal.nD) → Buf (Elt Ideal) ((c.tc : Thread Cert.KernelIdeal.nD Cert.KernelIdeal.τ).loc Cert.KernelIdeal.main_v11)) (v9 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_v50) = v4 c
          ∧ r.2.mem ((c.tc : Thread Cert.KernelIdeal.nD Cert.KernelIdeal.τ).loc Cert.KernelIdeal.main_v51) = v5 c
          ∧ r.2.mem ((c.tc : Thread Cert.KernelIdeal.nD Cert.KernelIdeal.τ).loc Cert.KernelIdeal.main_v103) = v6 c
          ∧ r.2.mem ((c.tc : Thread Cert.KernelIdeal.nD Cert.KernelIdeal.τ).loc Cert.KernelIdeal.main_v22) = v7 c
          ∧ r.2.mem ((c.tc : Thread Cert.KernelIdeal.nD Cert.KernelIdeal.τ).loc Cert.KernelIdeal.main_v11) = v8 c
          ∧ r.2.mem ((c.tc : Thread Cert.KernelIdeal.nD Cert.KernelIdeal.τ).loc Cert.KernelIdeal.main_v16) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v250) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_v236) = v5 c
          ∧ r.2.mem ((c.tc : Thread Cert.ReferenceIdeal.nD Cert.ReferenceIdeal.τ).loc Cert.ReferenceIdeal.main_v257) = v6 c
          ∧ r.2.mem ((c.tc : Thread Cert.ReferenceIdeal.nD Cert.ReferenceIdeal.τ).loc Cert.ReferenceIdeal.main_v259) = v7 c
          ∧ r.2.mem ((c.tc : Thread Cert.ReferenceIdeal.nD Cert.ReferenceIdeal.τ).loc Cert.ReferenceIdeal.main_v11) = v8 c
          ∧ r.2.mem ((c.tc : Thread Cert.ReferenceIdeal.nD Cert.ReferenceIdeal.τ).loc Cert.ReferenceIdeal.main_v16) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S200000x3 : Shape := ⟨2, ![200000, 3]⟩
abbrev S200000 : Shape := ⟨1, ![200000]⟩
abbrev S32768 : Shape := ⟨1, ![32768]⟩
abbrev S200000x1 : Shape := ⟨2, ![200000, 1]⟩
abbrev S_ : Shape := ⟨0, ![]⟩
abbrev S3 : Shape := ⟨1, ![3]⟩
abbrev S1x3 : Shape := ⟨2, ![1, 3]⟩
abbrev S1 : Shape := ⟨1, ![1]⟩
abbrev S4 : Shape := ⟨1, ![4]⟩
abbrev S200000x64 : Shape := ⟨2, ![200000, 64]⟩
abbrev S1000x3 : Shape := ⟨2, ![1000, 3]⟩
abbrev S1000x1 : Shape := ⟨2, ![1000, 1]⟩
abbrev S1000x64 : Shape := ⟨2, ![1000, 64]⟩
abbrev S12800000 : Shape := ⟨1, ![12800000]⟩
abbrev S199999 : Shape := ⟨1, ![199999]⟩
abbrev S12800000x1 : Shape := ⟨2, ![12800000, 1]⟩
abbrev S1x1 : Shape := ⟨2, ![1, 1]⟩
abbrev S200001 : Shape := ⟨1, ![200001]⟩
abbrev S32768x1 : Shape := ⟨2, ![32768, 1]⟩
abbrev S12799999 : Shape := ⟨1, ![12799999]⟩

abbrev nBuf : Space → Nat
  | .hbm => 294
  | .vmem => 10
  | .smem => 1
  | _ => 0

abbrev hbmTy0_0 (i : Nat) : BufTy := match i % 128 with
  | 0 => ⟨S200000x3, .f32⟩
  | 1 => ⟨S200000, .f32⟩
  | 2 => ⟨S32768, .i32⟩
  | 3 => ⟨S200000x1, .f32⟩
  | 4 => ⟨S200000x3, .f32⟩
  | 5 => ⟨S200000x3, .f32⟩
  | 6 => ⟨S200000x1, .f32⟩
  | 7 => ⟨S200000x3, .f32⟩
  | 8 => ⟨S200000x3, .f32⟩
  | 9 => ⟨S_, .f32⟩
  | 10 => ⟨S200000x3, .i1⟩
  | 11 => ⟨S_, .i1⟩
  | 12 => ⟨S3, .i1⟩
  | 13 => ⟨S1x3, .i1⟩
  | 14 => ⟨S_, .f32⟩
  | 15 => ⟨S_, .f32⟩
  | 16 => ⟨S200000x3, .i1⟩
  | 17 => ⟨S200000x3, .f32⟩
  | 18 => ⟨S200000x3, .f32⟩
  | 19 => ⟨S200000x3, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .i32⟩
  | 40 => ⟨S_, .i32⟩
  | 41 => ⟨S1, .i32⟩
  | 42 => ⟨S3, .f32⟩
  | 43 => ⟨S1, .i32⟩
  | 44 => ⟨S3, .f32⟩
  | 45 => ⟨S3, .f32⟩
  | 46 => ⟨S3, .f32⟩
  | 47 => ⟨S3, .f32⟩
  | 48 => ⟨S3, .f32⟩
  | 49 => ⟨S3, .f32⟩
  | 50 => ⟨S_, .f32⟩
  | 51 => ⟨S200000x3, .i1⟩
  | 52 => ⟨S_, .i1⟩
  | 53 => ⟨S3, .i1⟩
  | 54 => ⟨S1x3, .i1⟩
  | 55 => ⟨S_, .f32⟩
  | 56 => ⟨S_, .f32⟩
  | 57 => ⟨S200000x3, .i1⟩
  | 58 => ⟨S200000x3, .f32⟩
  | 59 => ⟨S200000x3, .f32⟩
  | 60 => ⟨S200000x3, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .i32⟩
  | 81 => ⟨S_, .i32⟩
  | 82 => ⟨S1, .i32⟩
  | 83 => ⟨S3, .f32⟩
  | 84 => ⟨S1, .i32⟩
  | 85 => ⟨S3, .f32⟩
  | 86 => ⟨S3, .f32⟩
  | 87 => ⟨S3, .f32⟩
  | 88 => ⟨S3, .f32⟩
  | 89 => ⟨S3, .f32⟩
  | 90 => ⟨S3, .f32⟩
  | 91 => ⟨S3, .f32⟩
  | 92 => ⟨S_, .f32⟩
  | 93 => ⟨S3, .f32⟩
  | 94 => ⟨S3, .f32⟩
  | 95 => ⟨S3, .f32⟩
  | 96 => ⟨S200000x3, .f32⟩
  | 97 => ⟨S_, .f32⟩
  | 98 => ⟨S200000, .f32⟩
  | 99 => ⟨S_, .f32⟩
  | 100 => ⟨S200000, .i1⟩
  | 101 => ⟨S_, .i1⟩
  | 102 => ⟨S_, .i1⟩
  | 103 => ⟨S1, .i1⟩
  | 104 => ⟨S_, .f32⟩
  | 105 => ⟨S_, .f32⟩
  | 106 => ⟨S200000, .i1⟩
  | 107 => ⟨S200000, .f32⟩
  | 108 => ⟨S200000, .f32⟩
  | 109 => ⟨S200000, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S200000x3, .f32⟩

abbrev hbmTy0_1 (i : Nat) : BufTy := match i % 128 with
  | 0 => ⟨S_, .f32⟩
  | 1 => ⟨S_, .i32⟩
  | 2 => ⟨S_, .i32⟩
  | 3 => ⟨S1, .i32⟩
  | 4 => ⟨S_, .f32⟩
  | 5 => ⟨S1, .i32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S1, .f32⟩
  | 15 => ⟨S4, .f32⟩
  | 16 => ⟨S200000x1, .f32⟩
  | 17 => ⟨S200000x64, .i32⟩
  | 18 => ⟨S200000x1, .i32⟩
  | 19 => ⟨S200000x1, .i32⟩
  | 20 => ⟨S200000, .i32⟩
  | 21 => ⟨S200000, .i32⟩
  | 22 => ⟨S12800000, .i32⟩
  | 23 => ⟨S_, .i32⟩
  | 24 => ⟨S12800000, .i32⟩
  | 25 => ⟨S12800000, .i1⟩
  | 26 => ⟨S200000, .i32⟩
  | 27 => ⟨S_, .i32⟩
  | 28 => ⟨S1, .i32⟩
  | 29 => ⟨S200000, .i32⟩
  | 30 => ⟨S1, .i32⟩
  | 31 => ⟨S199999, .i32⟩
  | 32 => ⟨S200000, .i32⟩
  | 33 => ⟨S_, .i32⟩
  | 34 => ⟨S1, .i32⟩
  | 35 => ⟨S200000, .i32⟩
  | 36 => ⟨S_, .i32⟩
  | 37 => ⟨S200000, .i32⟩
  | 38 => ⟨S200000, .i32⟩
  | 39 => ⟨S200000, .i32⟩
  | 40 => ⟨S_, .i32⟩
  | 41 => ⟨S_, .i32⟩
  | 42 => ⟨S200000, .i32⟩
  | 43 => ⟨S_, .i32⟩
  | 44 => ⟨S12800000, .i32⟩
  | 45 => ⟨S_, .i32⟩
  | 46 => ⟨S200000, .i32⟩
  | 47 => ⟨S200000, .i1⟩
  | 48 => ⟨S_, .i32⟩
  | 49 => ⟨S200000, .i32⟩
  | 50 => ⟨S200000, .i32⟩
  | 51 => ⟨S200000, .i32⟩
  | 52 => ⟨S200000x1, .i32⟩
  | 53 => ⟨S_, .i32⟩
  | 54 => ⟨S200000, .i32⟩
  | 55 => ⟨S12800000, .i32⟩
  | 56 => ⟨S_, .i32⟩
  | 57 => ⟨S_, .i32⟩
  | 58 => ⟨S12800000, .i32⟩
  | 59 => ⟨S_, .i32⟩
  | 60 => ⟨S12800000, .i32⟩
  | 61 => ⟨S12800000, .i32⟩
  | 62 => ⟨S_, .i32⟩
  | 63 => ⟨S12800000, .i32⟩
  | 64 => ⟨S12800000, .i1⟩
  | 65 => ⟨S_, .i32⟩
  | 66 => ⟨S12800000, .i32⟩
  | 67 => ⟨S12800000, .i32⟩
  | 68 => ⟨S12800000, .i32⟩
  | 69 => ⟨S12800000x1, .i32⟩
  | 70 => ⟨S1, .i32⟩
  | 71 => ⟨S_, .i32⟩
  | 72 => ⟨S12800000x1, .i32⟩
  | 73 => ⟨S12800000x1, .i1⟩
  | 74 => ⟨S1x1, .i32⟩
  | 75 => ⟨S12800000x1, .i32⟩
  | 76 => ⟨S12800000x1, .i1⟩
  | 77 => ⟨S12800000x1, .i1⟩
  | 78 => ⟨S_, .i1⟩
  | 79 => ⟨S12800000, .i1⟩
  | 80 => ⟨S12800000, .i32⟩
  | 81 => ⟨S_, .i32⟩
  | 82 => ⟨S12800000, .i32⟩
  | 83 => ⟨S12800000, .i32⟩
  | 84 => ⟨S_, .i32⟩
  | 85 => ⟨S1, .i32⟩
  | 86 => ⟨S_, .i32⟩
  | 87 => ⟨S_, .i32⟩
  | 88 => ⟨S200000, .i32⟩
  | 89 => ⟨S200001, .i32⟩
  | 90 => ⟨S_, .i32⟩
  | 91 => ⟨S_, .i32⟩
  | 92 => ⟨S12800000, .i32⟩
  | 93 => ⟨S12800000, .i32⟩
  | 94 => ⟨S12800000, .i32⟩
  | 95 => ⟨S_, .i32⟩
  | 96 => ⟨S12800000, .i32⟩
  | 97 => ⟨S12800000, .i1⟩
  | 98 => ⟨S_, .i32⟩
  | 99 => ⟨S12800000, .i32⟩
  | 100 => ⟨S12800000, .i32⟩
  | 101 => ⟨S12800000, .i32⟩
  | 102 => ⟨S12800000x1, .i32⟩
  | 103 => ⟨S12800000, .i32⟩
  | 104 => ⟨S_, .i32⟩
  | 105 => ⟨S12800000, .i32⟩
  | 106 => ⟨S12800000, .i1⟩
  | 107 => ⟨S_, .i32⟩
  | 108 => ⟨S12800000, .i32⟩
  | 109 => ⟨S12800000, .i32⟩
  | 110 => ⟨S12800000, .i32⟩
  | 111 => ⟨S12800000x1, .i32⟩
  | 112 => ⟨S12800000, .i32⟩
  | 113 => ⟨S_, .i32⟩
  | 114 => ⟨S12800000, .i32⟩
  | 115 => ⟨S12800000, .i1⟩
  | 116 => ⟨S_, .i32⟩
  | 117 => ⟨S12800000, .i32⟩
  | 118 => ⟨S12800000, .i32⟩
  | 119 => ⟨S12800000, .i32⟩
  | 120 => ⟨S12800000x1, .i32⟩
  | 121 => ⟨S12800000, .i1⟩
  | 122 => ⟨S_, .i32⟩
  | 123 => ⟨S32768, .i32⟩
  | 124 => ⟨S_, .i32⟩
  | 125 => ⟨S12800000, .i32⟩
  | 126 => ⟨S12800000, .i32⟩
  | 127 => ⟨S12800000, .i32⟩
  | _ => ⟨S200000x3, .f32⟩

abbrev hbmTy0_2 (i : Nat) : BufTy := match i % 128 with
  | 0 => ⟨S_, .i32⟩
  | 1 => ⟨S12800000, .i32⟩
  | 2 => ⟨S12800000, .i1⟩
  | 3 => ⟨S_, .i32⟩
  | 4 => ⟨S12800000, .i32⟩
  | 5 => ⟨S12800000, .i32⟩
  | 6 => ⟨S12800000, .i32⟩
  | 7 => ⟨S12800000x1, .i32⟩
  | 8 => ⟨S32768, .i32⟩
  | 9 => ⟨S_, .i32⟩
  | 10 => ⟨S32768, .i32⟩
  | 11 => ⟨S32768, .i1⟩
  | 12 => ⟨S_, .i32⟩
  | 13 => ⟨S32768, .i32⟩
  | 14 => ⟨S32768, .i32⟩
  | 15 => ⟨S32768, .i32⟩
  | 16 => ⟨S32768x1, .i32⟩
  | 17 => ⟨S32768, .i32⟩
  | 18 => ⟨S_, .i32⟩
  | 19 => ⟨S_, .i32⟩
  | 20 => ⟨S32768, .i32⟩
  | 21 => ⟨S32768, .i32⟩
  | 22 => ⟨S_, .i32⟩
  | 23 => ⟨S32768, .i32⟩
  | 24 => ⟨S32768, .i1⟩
  | 25 => ⟨S_, .i32⟩
  | 26 => ⟨S_, .i32⟩
  | 27 => ⟨S32768, .i32⟩
  | 28 => ⟨S32768, .i32⟩
  | 29 => ⟨S_, .i32⟩
  | 30 => ⟨S1, .i32⟩
  | 31 => ⟨S12799999, .i32⟩
  | 32 => ⟨S12800000, .i32⟩
  | 33 => ⟨S12800000, .i1⟩
  | 34 => ⟨S12800000, .i1⟩
  | 35 => ⟨S12800000, .i32⟩
  | 36 => ⟨S_, .i32⟩
  | 37 => ⟨S_, .i32⟩
  | _ => ⟨S200000x3, .f32⟩

abbrev hbmTy (i : Nat) : BufTy := match i / 128 with
  | 0 => hbmTy0_0 i
  | 1 => hbmTy0_1 i
  | 2 => hbmTy0_2 i
  | _ => ⟨S200000x3, .f32⟩

abbrev bufTy : (tb : Table) → Fin (tcTables nBuf tb) → BufTy
  | .hbm, ⟨i, _⟩ => hbmTy i
  | .local _ .vmem, ⟨0, _⟩ => ⟨S1000x3, .f32⟩
  | .local _ .vmem, ⟨1, _⟩ => ⟨S1000x3, .f32⟩
  | .local _ .vmem, ⟨2, _⟩ => ⟨S1000x1, .f32⟩
  | .local _ .vmem, ⟨3, _⟩ => ⟨S1000x1, .f32⟩
  | .local _ .vmem, ⟨4, _⟩ => ⟨S1000x64, .i32⟩
  | .local _ .vmem, ⟨5, _⟩ => ⟨S1000x64, .i32⟩
  | .local _ .vmem, ⟨6, _⟩ => ⟨S1000x1, .i32⟩
  | .local _ .vmem, ⟨7, _⟩ => ⟨S1000x1, .i32⟩
  | .local _ .vmem, ⟨8, _⟩ => ⟨S1000x1, .i32⟩
  | .local _ .vmem, ⟨9, _⟩ => ⟨S1000x1, .i32⟩
  | .local _ .smem, ⟨0, _⟩ => ⟨S4, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_cst_1 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_cst_2 : Ref sig .tc := ⟨.hbm, 27, rfl⟩
abbrev main_call0_v10 : Ref sig .tc := ⟨.hbm, 28, rfl⟩
abbrev main_call0_cst_3 : Ref sig .tc := ⟨.hbm, 29, rfl⟩
abbrev main_call0_cst_4 : Ref sig .tc := ⟨.hbm, 30, rfl⟩
abbrev main_call0_v11 : Ref sig .tc := ⟨.hbm, 31, rfl⟩
abbrev main_call0_cst_5 : Ref sig .tc := ⟨.hbm, 32, rfl⟩
abbrev main_call0_v12 : Ref sig .tc := ⟨.hbm, 33, rfl⟩
abbrev main_call0_cst_6 : Ref sig .tc := ⟨.hbm, 34, rfl⟩
abbrev main_call0_cst_7 : Ref sig .tc := ⟨.hbm, 35, rfl⟩
abbrev main_call0_v13 : Ref sig .tc := ⟨.hbm, 36, rfl⟩
abbrev main_call0_cst_8 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_v22 : Ref sig .tc := ⟨.hbm, 46, rfl⟩
abbrev main_call0_v23 : Ref sig .tc := ⟨.hbm, 47, rfl⟩
abbrev main_call0_v24 : Ref sig .tc := ⟨.hbm, 48, rfl⟩
abbrev main_v6 : Ref sig .tc := ⟨.hbm, 49, rfl⟩
abbrev main_cst_0 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_cst : Ref sig .tc := ⟨.hbm, 55, rfl⟩
abbrev main_call1_call0_v0 : Ref sig .tc := ⟨.hbm, 56, rfl⟩
abbrev main_call1_call0_v1 : Ref sig .tc := ⟨.hbm, 57, rfl⟩
abbrev main_call1_call0_v2 : Ref sig .tc := ⟨.hbm, 58, rfl⟩
abbrev main_call1_v3 : Ref sig .tc := ⟨.hbm, 59, rfl⟩
abbrev main_call1_v4 : Ref sig .tc := ⟨.hbm, 60, rfl⟩
abbrev main_call1_cst_0 : Ref sig .tc := ⟨.hbm, 61, rfl⟩
abbrev main_call1_cst_1 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_cst_2 : Ref sig .tc := ⟨.hbm, 68, rfl⟩
abbrev main_call1_v10 : Ref sig .tc := ⟨.hbm, 69, rfl⟩
abbrev main_call1_cst_3 : Ref sig .tc := ⟨.hbm, 70, rfl⟩
abbrev main_call1_cst_4 : Ref sig .tc := ⟨.hbm, 71, rfl⟩
abbrev main_call1_v11 : Ref sig .tc := ⟨.hbm, 72, rfl⟩
abbrev main_call1_cst_5 : Ref sig .tc := ⟨.hbm, 73, rfl⟩
abbrev main_call1_v12 : Ref sig .tc := ⟨.hbm, 74, rfl⟩
abbrev main_call1_cst_6 : Ref sig .tc := ⟨.hbm, 75, rfl⟩
abbrev main_call1_cst_7 : Ref sig .tc := ⟨.hbm, 76, rfl⟩
abbrev main_call1_v13 : Ref sig .tc := ⟨.hbm, 77, rfl⟩
abbrev main_call1_cst_8 : Ref sig .tc := ⟨.hbm, 78, rfl⟩
abbrev main_call1_v14 : Ref sig .tc := ⟨.hbm, 79, rfl⟩
abbrev main_call1_v15 : Ref sig .tc := ⟨.hbm, 80, rfl⟩
abbrev main_call1_v16 : Ref sig .tc := ⟨.hbm, 81, rfl⟩
abbrev main_call1_v17 : Ref sig .tc := ⟨.hbm, 82, rfl⟩
abbrev main_call1_v18 : Ref sig .tc := ⟨.hbm, 83, rfl⟩
abbrev main_call1_v19 : Ref sig .tc := ⟨.hbm, 84, rfl⟩
abbrev main_call1_v20 : Ref sig .tc := ⟨.hbm, 85, rfl⟩
abbrev main_call1_v21 : Ref sig .tc := ⟨.hbm, 86, rfl⟩
abbrev main_call1_v22 : Ref sig .tc := ⟨.hbm, 87, rfl⟩
abbrev main_call1_v23 : Ref sig .tc := ⟨.hbm, 88, rfl⟩
abbrev main_call1_v24 : Ref sig .tc := ⟨.hbm, 89, rfl⟩
abbrev main_v7 : Ref sig .tc := ⟨.hbm, 90, rfl⟩
abbrev main_v8 : Ref sig .tc := ⟨.hbm, 91, rfl⟩
abbrev main_cst_1 : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩
abbrev main_v12 : Ref sig .tc := ⟨.hbm, 96, rfl⟩
abbrev main_cst_2 : Ref sig .tc := ⟨.hbm, 97, rfl⟩
abbrev main_v13 : Ref sig .tc := ⟨.hbm, 98, rfl⟩
abbrev main_call2_cst : Ref sig .tc := ⟨.hbm, 99, rfl⟩
abbrev main_call2_call0_v0 : Ref sig .tc := ⟨.hbm, 100, rfl⟩
abbrev main_call2_call0_c : Ref sig .tc := ⟨.hbm, 101, rfl⟩
abbrev main_call2_call0_v1 : Ref sig .tc := ⟨.hbm, 102, rfl⟩
abbrev main_call2_call0_v2 : Ref sig .tc := ⟨.hbm, 103, rfl⟩
abbrev main_call2_call0_cst : Ref sig .tc := ⟨.hbm, 104, rfl⟩
abbrev main_call2_call0_call0_v0 : Ref sig .tc := ⟨.hbm, 105, rfl⟩
abbrev main_call2_call0_call0_v1 : Ref sig .tc := ⟨.hbm, 106, rfl⟩
abbrev main_call2_call0_call0_v2 : Ref sig .tc := ⟨.hbm, 107, rfl⟩
abbrev main_call2_call0_v3 : Ref sig .tc := ⟨.hbm, 108, rfl⟩
abbrev main_call2_call0_v4 : Ref sig .tc := ⟨.hbm, 109, rfl⟩
abbrev main_call2_call0_cst_0 : Ref sig .tc := ⟨.hbm, 110, rfl⟩
abbrev main_call2_call0_cst_1 : Ref sig .tc := ⟨.hbm, 111, rfl⟩
abbrev main_call2_call0_v5 : Ref sig .tc := ⟨.hbm, 112, rfl⟩
abbrev main_call2_call0_v6 : Ref sig .tc := ⟨.hbm, 113, rfl⟩
abbrev main_call2_call0_v7 : Ref sig .tc := ⟨.hbm, 114, rfl⟩
abbrev main_call2_call0_v8 : Ref sig .tc := ⟨.hbm, 115, rfl⟩
abbrev main_call2_call0_v9 : Ref sig .tc := ⟨.hbm, 116, rfl⟩
abbrev main_call2_call0_cst_2 : Ref sig .tc := ⟨.hbm, 117, rfl⟩
abbrev main_call2_call0_v10 : Ref sig .tc := ⟨.hbm, 118, rfl⟩
abbrev main_call2_call0_cst_3 : Ref sig .tc := ⟨.hbm, 119, rfl⟩
abbrev main_call2_call0_cst_4 : Ref sig .tc := ⟨.hbm, 120, rfl⟩
abbrev main_call2_call0_v11 : Ref sig .tc := ⟨.hbm, 121, rfl⟩
abbrev main_call2_call0_cst_5 : Ref sig .tc := ⟨.hbm, 122, rfl⟩
abbrev main_call2_call0_v12 : Ref sig .tc := ⟨.hbm, 123, rfl⟩
abbrev main_call2_call0_cst_6 : Ref sig .tc := ⟨.hbm, 124, rfl⟩
abbrev main_call2_call0_cst_7 : Ref sig .tc := ⟨.hbm, 125, rfl⟩
abbrev main_call2_call0_v13 : Ref sig .tc := ⟨.hbm, 126, rfl⟩
abbrev main_call2_call0_cst_8 : Ref sig .tc := ⟨.hbm, 127, rfl⟩
abbrev main_call2_call0_v14 : Ref sig .tc := ⟨.hbm, 128, rfl⟩
abbrev main_call2_call0_v15 : Ref sig .tc := ⟨.hbm, 129, rfl⟩
abbrev main_call2_call0_v16 : Ref sig .tc := ⟨.hbm, 130, rfl⟩
abbrev main_call2_call0_v17 : Ref sig .tc := ⟨.hbm, 131, rfl⟩
abbrev main_call2_call0_v18 : Ref sig .tc := ⟨.hbm, 132, rfl⟩
abbrev main_call2_call0_v19 : Ref sig .tc := ⟨.hbm, 133, rfl⟩
abbrev main_call2_call0_v20 : Ref sig .tc := ⟨.hbm, 134, rfl⟩
abbrev main_call2_call0_v21 : Ref sig .tc := ⟨.hbm, 135, rfl⟩
abbrev main_call2_call0_cst_9 : Ref sig .tc := ⟨.hbm, 136, rfl⟩
abbrev main_v14 : Ref sig .tc := ⟨.hbm, 137, rfl⟩
abbrev main_cst_3 : Ref sig .tc := ⟨.hbm, 138, rfl⟩
abbrev main_v15 : Ref sig .tc := ⟨.hbm, 139, rfl⟩
abbrev main_cst_4 : Ref sig .tc := ⟨.hbm, 140, rfl⟩
abbrev main_v16 : Ref sig .tc := ⟨.hbm, 141, rfl⟩
abbrev main_v17 : Ref sig .tc := ⟨.hbm, 142, rfl⟩
abbrev main_v18 : Ref sig .tc := ⟨.hbm, 143, rfl⟩
abbrev main_v19 : Ref sig .tc := ⟨.hbm, 144, rfl⟩
abbrev main_v20_0 : Ref sig .tc := ⟨.hbm, 145, rfl⟩
abbrev main_v20_1 : Ref sig .tc := ⟨.hbm, 146, rfl⟩
abbrev main_v20_2 : Ref sig .tc := ⟨.hbm, 147, rfl⟩
abbrev main_v21 : Ref sig .tc := ⟨.hbm, 148, rfl⟩
abbrev main_v22 : Ref sig .tc := ⟨.hbm, 149, rfl⟩
abbrev main_v23 : Ref sig .tc := ⟨.hbm, 150, rfl⟩
abbrev main_c_5 : Ref sig .tc := ⟨.hbm, 151, rfl⟩
abbrev main_v24 : Ref sig .tc := ⟨.hbm, 152, rfl⟩
abbrev main_v25 : Ref sig .tc := ⟨.hbm, 153, rfl⟩
abbrev main_v26 : Ref sig .tc := ⟨.hbm, 154, rfl⟩
abbrev main_c_6 : Ref sig .tc := ⟨.hbm, 155, rfl⟩
abbrev main_v27 : Ref sig .tc := ⟨.hbm, 156, rfl⟩
abbrev main_v28 : Ref sig .tc := ⟨.hbm, 157, rfl⟩
abbrev main_call3_v0 : Ref sig .tc := ⟨.hbm, 158, rfl⟩
abbrev main_call3_v1 : Ref sig .tc := ⟨.hbm, 159, rfl⟩
abbrev main_v29 : Ref sig .tc := ⟨.hbm, 160, rfl⟩
abbrev main_c_7 : Ref sig .tc := ⟨.hbm, 161, rfl⟩
abbrev main_v30 : Ref sig .tc := ⟨.hbm, 162, rfl⟩
abbrev main_v31 : Ref sig .tc := ⟨.hbm, 163, rfl⟩
abbrev main_c_8 : Ref sig .tc := ⟨.hbm, 164, rfl⟩
abbrev main_v32 : Ref sig .tc := ⟨.hbm, 165, rfl⟩
abbrev main_v33 : Ref sig .tc := ⟨.hbm, 166, rfl⟩
abbrev main_call4_v0 : Ref sig .tc := ⟨.hbm, 167, rfl⟩
abbrev main_call4_call0_c : Ref sig .tc := ⟨.hbm, 168, rfl⟩
abbrev main_call4_call0_v0 : Ref sig .tc := ⟨.hbm, 169, rfl⟩
abbrev main_v34 : Ref sig .tc := ⟨.hbm, 170, rfl⟩
abbrev main_c_9 : Ref sig .tc := ⟨.hbm, 171, rfl⟩
abbrev main_v35 : Ref sig .tc := ⟨.hbm, 172, rfl⟩
abbrev main_c_10 : Ref sig .tc := ⟨.hbm, 173, rfl⟩
abbrev main_v36 : Ref sig .tc := ⟨.hbm, 174, rfl⟩
abbrev main_v37 : Ref sig .tc := ⟨.hbm, 175, rfl⟩
abbrev main_c_11 : Ref sig .tc := ⟨.hbm, 176, rfl⟩
abbrev main_v38 : Ref sig .tc := ⟨.hbm, 177, rfl⟩
abbrev main_v39 : Ref sig .tc := ⟨.hbm, 178, rfl⟩
abbrev main_v40 : Ref sig .tc := ⟨.hbm, 179, rfl⟩
abbrev main_v41 : Ref sig .tc := ⟨.hbm, 180, rfl⟩
abbrev main_c_12 : Ref sig .tc := ⟨.hbm, 181, rfl⟩
abbrev main_v42 : Ref sig .tc := ⟨.hbm, 182, rfl⟩
abbrev main_v43 : Ref sig .tc := ⟨.hbm, 183, rfl⟩
abbrev main_call5_call0_c : Ref sig .tc := ⟨.hbm, 184, rfl⟩
abbrev main_call5_call0_v0 : Ref sig .tc := ⟨.hbm, 185, rfl⟩
abbrev main_v44 : Ref sig .tc := ⟨.hbm, 186, rfl⟩
abbrev main_c_13 : Ref sig .tc := ⟨.hbm, 187, rfl⟩
abbrev main_v45 : Ref sig .tc := ⟨.hbm, 188, rfl⟩
abbrev main_v46 : Ref sig .tc := ⟨.hbm, 189, rfl⟩
abbrev main_call6_c : Ref sig .tc := ⟨.hbm, 190, rfl⟩
abbrev main_call6_v0 : Ref sig .tc := ⟨.hbm, 191, rfl⟩
abbrev main_call6_v1 : Ref sig .tc := ⟨.hbm, 192, rfl⟩
abbrev main_call6_c_0 : Ref sig .tc := ⟨.hbm, 193, rfl⟩
abbrev main_call6_v2 : Ref sig .tc := ⟨.hbm, 194, rfl⟩
abbrev main_call6_v3 : Ref sig .tc := ⟨.hbm, 195, rfl⟩
abbrev main_call6_v4 : Ref sig .tc := ⟨.hbm, 196, rfl⟩
abbrev main_call6_v5 : Ref sig .tc := ⟨.hbm, 197, rfl⟩
abbrev main_call6_c_1 : Ref sig .tc := ⟨.hbm, 198, rfl⟩
abbrev main_call6_c_2 : Ref sig .tc := ⟨.hbm, 199, rfl⟩
abbrev main_call6_v6 : Ref sig .tc := ⟨.hbm, 200, rfl⟩
abbrev main_call6_v7 : Ref sig .tc := ⟨.hbm, 201, rfl⟩
abbrev main_call6_v8 : Ref sig .tc := ⟨.hbm, 202, rfl⟩
abbrev main_call6_v9 : Ref sig .tc := ⟨.hbm, 203, rfl⟩
abbrev main_call6_v10 : Ref sig .tc := ⟨.hbm, 204, rfl⟩
abbrev main_call6_v11 : Ref sig .tc := ⟨.hbm, 205, rfl⟩
abbrev main_call6_c_3 : Ref sig .tc := ⟨.hbm, 206, rfl⟩
abbrev main_call6_v12 : Ref sig .tc := ⟨.hbm, 207, rfl⟩
abbrev main_call6_v13 : Ref sig .tc := ⟨.hbm, 208, rfl⟩
abbrev main_call6_c_4 : Ref sig .tc := ⟨.hbm, 209, rfl⟩
abbrev main_call6_v14 : Ref sig .tc := ⟨.hbm, 210, rfl⟩
abbrev main_v47 : Ref sig .tc := ⟨.hbm, 211, rfl⟩
abbrev main_c_14 : Ref sig .tc := ⟨.hbm, 212, rfl⟩
abbrev main_v48 : Ref sig .tc := ⟨.hbm, 213, rfl⟩
abbrev main_call7_call0_c : Ref sig .tc := ⟨.hbm, 214, rfl⟩
abbrev main_call7_call0_v0 : Ref sig .tc := ⟨.hbm, 215, rfl⟩
abbrev main_v49 : Ref sig .tc := ⟨.hbm, 216, rfl⟩
abbrev main_v50 : Ref sig .tc := ⟨.hbm, 217, rfl⟩
abbrev main_c_15 : Ref sig .tc := ⟨.hbm, 218, rfl⟩
abbrev main_v51 : Ref sig .tc := ⟨.hbm, 219, rfl⟩
abbrev main_call8_v0 : Ref sig .tc := ⟨.hbm, 220, rfl⟩
abbrev main_call8_v1_0 : Ref sig .tc := ⟨.hbm, 221, rfl⟩
abbrev main_v52 : Ref sig .tc := ⟨.hbm, 222, rfl⟩
abbrev main_c_16 : Ref sig .tc := ⟨.hbm, 223, rfl⟩
abbrev main_v53 : Ref sig .tc := ⟨.hbm, 224, rfl⟩
abbrev main_v54 : Ref sig .tc := ⟨.hbm, 225, rfl⟩
abbrev main_c_17 : Ref sig .tc := ⟨.hbm, 226, rfl⟩
abbrev main_v55 : Ref sig .tc := ⟨.hbm, 227, rfl⟩
abbrev main_v56 : Ref sig .tc := ⟨.hbm, 228, rfl⟩
abbrev main_v57 : Ref sig .tc := ⟨.hbm, 229, rfl⟩
abbrev main_v58 : Ref sig .tc := ⟨.hbm, 230, rfl⟩
abbrev main_v59 : Ref sig .tc := ⟨.hbm, 231, rfl⟩
abbrev main_c_18 : Ref sig .tc := ⟨.hbm, 232, rfl⟩
abbrev main_v60 : Ref sig .tc := ⟨.hbm, 233, rfl⟩
abbrev main_v61 : Ref sig .tc := ⟨.hbm, 234, rfl⟩
abbrev main_c_19 : Ref sig .tc := ⟨.hbm, 235, rfl⟩
abbrev main_v62 : Ref sig .tc := ⟨.hbm, 236, rfl⟩
abbrev main_v63 : Ref sig .tc := ⟨.hbm, 237, rfl⟩
abbrev main_v64 : Ref sig .tc := ⟨.hbm, 238, rfl⟩
abbrev main_v65 : Ref sig .tc := ⟨.hbm, 239, rfl⟩
abbrev main_v66 : Ref sig .tc := ⟨.hbm, 240, rfl⟩
abbrev main_c_20 : Ref sig .tc := ⟨.hbm, 241, rfl⟩
abbrev main_v67 : Ref sig .tc := ⟨.hbm, 242, rfl⟩
abbrev main_v68 : Ref sig .tc := ⟨.hbm, 243, rfl⟩
abbrev main_c_21 : Ref sig .tc := ⟨.hbm, 244, rfl⟩
abbrev main_v69 : Ref sig .tc := ⟨.hbm, 245, rfl⟩
abbrev main_v70 : Ref sig .tc := ⟨.hbm, 246, rfl⟩
abbrev main_v71 : Ref sig .tc := ⟨.hbm, 247, rfl⟩
abbrev main_v72 : Ref sig .tc := ⟨.hbm, 248, rfl⟩
abbrev main_v73 : Ref sig .tc := ⟨.hbm, 249, rfl⟩
abbrev main_c_22 : Ref sig .tc := ⟨.hbm, 250, rfl⟩
abbrev main_v74 : Ref sig .tc := ⟨.hbm, 251, rfl⟩
abbrev main_c_23 : Ref sig .tc := ⟨.hbm, 252, rfl⟩
abbrev main_v75 : Ref sig .tc := ⟨.hbm, 253, rfl⟩
abbrev main_v76 : Ref sig .tc := ⟨.hbm, 254, rfl⟩
abbrev main_v77 : Ref sig .tc := ⟨.hbm, 255, rfl⟩
abbrev main_c_24 : Ref sig .tc := ⟨.hbm, 256, rfl⟩
abbrev main_v78 : Ref sig .tc := ⟨.hbm, 257, rfl⟩
abbrev main_v79 : Ref sig .tc := ⟨.hbm, 258, rfl⟩
abbrev main_c_25 : Ref sig .tc := ⟨.hbm, 259, rfl⟩
abbrev main_v80 : Ref sig .tc := ⟨.hbm, 260, rfl⟩
abbrev main_v81 : Ref sig .tc := ⟨.hbm, 261, rfl⟩
abbrev main_v82 : Ref sig .tc := ⟨.hbm, 262, rfl⟩
abbrev main_v83 : Ref sig .tc := ⟨.hbm, 263, rfl⟩
abbrev main_v84 : Ref sig .tc := ⟨.hbm, 264, rfl⟩
abbrev main_c_26 : Ref sig .tc := ⟨.hbm, 265, rfl⟩
abbrev main_v85 : Ref sig .tc := ⟨.hbm, 266, rfl⟩
abbrev main_v86 : Ref sig .tc := ⟨.hbm, 267, rfl⟩
abbrev main_c_27 : Ref sig .tc := ⟨.hbm, 268, rfl⟩
abbrev main_v87 : Ref sig .tc := ⟨.hbm, 269, rfl⟩
abbrev main_v88 : Ref sig .tc := ⟨.hbm, 270, rfl⟩
abbrev main_v89 : Ref sig .tc := ⟨.hbm, 271, rfl⟩
abbrev main_v90 : Ref sig .tc := ⟨.hbm, 272, rfl⟩
abbrev main_v91 : Ref sig .tc := ⟨.hbm, 273, rfl⟩
abbrev main_call9_call0_c : Ref sig .tc := ⟨.hbm, 274, rfl⟩
abbrev main_call9_call0_v0 : Ref sig .tc := ⟨.hbm, 275, rfl⟩
abbrev main_v92 : Ref sig .tc := ⟨.hbm, 276, rfl⟩
abbrev main_v93 : Ref sig .tc := ⟨.hbm, 277, rfl⟩
abbrev main_c_28 : Ref sig .tc := ⟨.hbm, 278, rfl⟩
abbrev main_v94 : Ref sig .tc := ⟨.hbm, 279, rfl⟩
abbrev main_v95 : Ref sig .tc := ⟨.hbm, 280, rfl⟩
abbrev main_c_29 : Ref sig .tc := ⟨.hbm, 281, rfl⟩
abbrev main_call10_v0 : Ref sig .tc := ⟨.hbm, 282, rfl⟩
abbrev main_call10_v1 : Ref sig .tc := ⟨.hbm, 283, rfl⟩
abbrev main_v96 : Ref sig .tc := ⟨.hbm, 284, rfl⟩
abbrev main_c_30 : Ref sig .tc := ⟨.hbm, 285, rfl⟩
abbrev main_v97 : Ref sig .tc := ⟨.hbm, 286, rfl⟩
abbrev main_v98 : Ref sig .tc := ⟨.hbm, 287, rfl⟩
abbrev main_v99 : Ref sig .tc := ⟨.hbm, 288, rfl⟩
abbrev main_v100 : Ref sig .tc := ⟨.hbm, 289, rfl⟩
abbrev main_v101 : Ref sig .tc := ⟨.hbm, 290, rfl⟩
abbrev main_v102 : Ref sig .tc := ⟨.hbm, 291, rfl⟩
abbrev main_c_31 : Ref sig .tc := ⟨.hbm, 292, rfl⟩
abbrev main_v103 : Ref sig .tc := ⟨.hbm, 293, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S200000x3 : Shape := ⟨2, ![200000, 3]⟩
abbrev S200000 : Shape := ⟨1, ![200000]⟩
abbrev S200000x1 : Shape := ⟨2, ![200000, 1]⟩
abbrev S_ : Shape := ⟨0, ![]⟩
abbrev S3 : Shape := ⟨1, ![3]⟩
abbrev S1x3 : Shape := ⟨2, ![1, 3]⟩
abbrev S1 : Shape := ⟨1, ![1]⟩
abbrev S200001 : Shape := ⟨1, ![200001]⟩
abbrev S4 : Shape := ⟨1, ![4]⟩
abbrev S4x1x1 : Shape := ⟨3, ![4, 1, 1]⟩
abbrev S1x4x1 : Shape := ⟨3, ![1, 4, 1]⟩
abbrev S1x1x4 : Shape := ⟨3, ![1, 1, 4]⟩
abbrev S200000x1x1x1 : Shape := ⟨4, ![200000, 1, 1, 1]⟩
abbrev S1x4x1x1 : Shape := ⟨4, ![1, 4, 1, 1]⟩
abbrev S200000x4x1x1 : Shape := ⟨4, ![200000, 4, 1, 1]⟩
abbrev S1x1x4x1 : Shape := ⟨4, ![1, 1, 4, 1]⟩
abbrev S200000x1x4x1 : Shape := ⟨4, ![200000, 1, 4, 1]⟩
abbrev S1x1x1x4 : Shape := ⟨4, ![1, 1, 1, 4]⟩
abbrev S200000x1x1x4 : Shape := ⟨4, ![200000, 1, 1, 4]⟩
abbrev S200000x4x4x1 : Shape := ⟨4, ![200000, 4, 4, 1]⟩
abbrev S200000x4x4x4 : Shape := ⟨4, ![200000, 4, 4, 4]⟩
abbrev S12800000 : Shape := ⟨1, ![12800000]⟩
abbrev S12800000x1 : Shape := ⟨2, ![12800000, 1]⟩
abbrev S32768 : Shape := ⟨1, ![32768]⟩
abbrev S12799999 : Shape := ⟨1, ![12799999]⟩

abbrev nBuf : Space → Nat
  | .hbm => 506
  | .vmem => 0
  | .smem => 0
  | _ => 0

abbrev hbmTy0_0 (i : Nat) : BufTy := match i % 128 with
  | 0 => ⟨S200000x3, .f32⟩
  | 1 => ⟨S200000, .f32⟩
  | 2 => ⟨S200000x1, .f32⟩
  | 3 => ⟨S200000x3, .f32⟩
  | 4 => ⟨S200000x3, .f32⟩
  | 5 => ⟨S200000x1, .f32⟩
  | 6 => ⟨S200000x3, .f32⟩
  | 7 => ⟨S200000x3, .f32⟩
  | 8 => ⟨S_, .f32⟩
  | 9 => ⟨S200000x3, .i1⟩
  | 10 => ⟨S_, .i1⟩
  | 11 => ⟨S3, .i1⟩
  | 12 => ⟨S1x3, .i1⟩
  | 13 => ⟨S_, .f32⟩
  | 14 => ⟨S_, .f32⟩
  | 15 => ⟨S200000x3, .i1⟩
  | 16 => ⟨S200000x3, .f32⟩
  | 17 => ⟨S200000x3, .f32⟩
  | 18 => ⟨S200000x3, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .i32⟩
  | 39 => ⟨S_, .i32⟩
  | 40 => ⟨S1, .i32⟩
  | 41 => ⟨S3, .f32⟩
  | 42 => ⟨S1, .i32⟩
  | 43 => ⟨S3, .f32⟩
  | 44 => ⟨S3, .f32⟩
  | 45 => ⟨S3, .f32⟩
  | 46 => ⟨S3, .f32⟩
  | 47 => ⟨S3, .f32⟩
  | 48 => ⟨S3, .f32⟩
  | 49 => ⟨S_, .f32⟩
  | 50 => ⟨S200000x3, .i1⟩
  | 51 => ⟨S_, .i1⟩
  | 52 => ⟨S3, .i1⟩
  | 53 => ⟨S1x3, .i1⟩
  | 54 => ⟨S_, .f32⟩
  | 55 => ⟨S_, .f32⟩
  | 56 => ⟨S200000x3, .i1⟩
  | 57 => ⟨S200000x3, .f32⟩
  | 58 => ⟨S200000x3, .f32⟩
  | 59 => ⟨S200000x3, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .i32⟩
  | 80 => ⟨S_, .i32⟩
  | 81 => ⟨S1, .i32⟩
  | 82 => ⟨S3, .f32⟩
  | 83 => ⟨S1, .i32⟩
  | 84 => ⟨S3, .f32⟩
  | 85 => ⟨S3, .f32⟩
  | 86 => ⟨S3, .f32⟩
  | 87 => ⟨S3, .f32⟩
  | 88 => ⟨S3, .f32⟩
  | 89 => ⟨S3, .f32⟩
  | 90 => ⟨S3, .f32⟩
  | 91 => ⟨S_, .f32⟩
  | 92 => ⟨S3, .f32⟩
  | 93 => ⟨S3, .f32⟩
  | 94 => ⟨S3, .f32⟩
  | 95 => ⟨S200000x3, .f32⟩
  | 96 => ⟨S_, .f32⟩
  | 97 => ⟨S200000, .f32⟩
  | 98 => ⟨S_, .f32⟩
  | 99 => ⟨S200000, .i1⟩
  | 100 => ⟨S_, .i1⟩
  | 101 => ⟨S_, .i1⟩
  | 102 => ⟨S1, .i1⟩
  | 103 => ⟨S_, .f32⟩
  | 104 => ⟨S_, .f32⟩
  | 105 => ⟨S200000, .i1⟩
  | 106 => ⟨S200000, .f32⟩
  | 107 => ⟨S200000, .f32⟩
  | 108 => ⟨S200000, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S200000x3, .f32⟩

abbrev hbmTy0_1 (i : Nat) : BufTy := match i % 128 with
  | 0 => ⟨S_, .i32⟩
  | 1 => ⟨S_, .i32⟩
  | 2 => ⟨S1, .i32⟩
  | 3 => ⟨S_, .f32⟩
  | 4 => ⟨S1, .i32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1x3, .f32⟩
  | 14 => ⟨S200000x3, .f32⟩
  | 15 => ⟨S200000x3, .f32⟩
  | 16 => ⟨S200000x3, .f32⟩
  | 17 => ⟨S200000x3, .f32⟩
  | 18 => ⟨S200000x3, .f32⟩
  | 19 => ⟨S200000x3, .i32⟩
  | 20 => ⟨S_, .i32⟩
  | 21 => ⟨S_, .i32⟩
  | 22 => ⟨S_, .i32⟩
  | 23 => ⟨S200000x3, .i32⟩
  | 24 => ⟨S200000x3, .i32⟩
  | 25 => ⟨S_, .i32⟩
  | 26 => ⟨S200000x3, .i32⟩
  | 27 => ⟨S200000x3, .i32⟩
  | 28 => ⟨S1x3, .f32⟩
  | 29 => ⟨S200000x3, .f32⟩
  | 30 => ⟨S200000x3, .f32⟩
  | 31 => ⟨S200000x3, .f32⟩
  | 32 => ⟨S200000x3, .f32⟩
  | 33 => ⟨S200000x3, .f32⟩
  | 34 => ⟨S200000x3, .i32⟩
  | 35 => ⟨S_, .i32⟩
  | 36 => ⟨S_, .i32⟩
  | 37 => ⟨S_, .i32⟩
  | 38 => ⟨S200000x3, .i32⟩
  | 39 => ⟨S200000x3, .i32⟩
  | 40 => ⟨S_, .i32⟩
  | 41 => ⟨S200000x3, .i32⟩
  | 42 => ⟨S200000x3, .i32⟩
  | 43 => ⟨S200000x3, .i32⟩
  | 44 => ⟨S_, .i32⟩
  | 45 => ⟨S200000x3, .i32⟩
  | 46 => ⟨S200000x3, .i32⟩
  | 47 => ⟨S200000x1, .i32⟩
  | 48 => ⟨S200000, .i32⟩
  | 49 => ⟨S200000x1, .i32⟩
  | 50 => ⟨S200000, .i32⟩
  | 51 => ⟨S200000, .i32⟩
  | 52 => ⟨S200000x1, .i32⟩
  | 53 => ⟨S200000, .i32⟩
  | 54 => ⟨S200000, .i32⟩
  | 55 => ⟨S_, .i32⟩
  | 56 => ⟨S200000, .i32⟩
  | 57 => ⟨S200000, .i1⟩
  | 58 => ⟨S_, .i32⟩
  | 59 => ⟨S200000x3, .i32⟩
  | 60 => ⟨S200000x3, .i1⟩
  | 61 => ⟨S_, .i1⟩
  | 62 => ⟨S200000, .i1⟩
  | 63 => ⟨S200000, .i1⟩
  | 64 => ⟨S_, .i32⟩
  | 65 => ⟨S_, .i32⟩
  | 66 => ⟨S200000, .i32⟩
  | 67 => ⟨S200000, .i32⟩
  | 68 => ⟨S_, .i32⟩
  | 69 => ⟨S1, .i32⟩
  | 70 => ⟨S_, .i32⟩
  | 71 => ⟨S_, .i32⟩
  | 72 => ⟨S200000, .i32⟩
  | 73 => ⟨S200001, .i32⟩
  | 74 => ⟨S4, .i32⟩
  | 75 => ⟨S4x1x1, .i32⟩
  | 76 => ⟨S1x4x1, .i32⟩
  | 77 => ⟨S1x1x4, .i32⟩
  | 78 => ⟨S200000x1, .i32⟩
  | 79 => ⟨S200000, .i32⟩
  | 80 => ⟨S200000x1x1x1, .i32⟩
  | 81 => ⟨S1x4x1x1, .i32⟩
  | 82 => ⟨S200000x4x1x1, .i32⟩
  | 83 => ⟨S200000x4x1x1, .i32⟩
  | 84 => ⟨S200000x4x1x1, .i32⟩
  | 85 => ⟨S200000x1, .i32⟩
  | 86 => ⟨S200000, .i32⟩
  | 87 => ⟨S200000x1x1x1, .i32⟩
  | 88 => ⟨S1x1x4x1, .i32⟩
  | 89 => ⟨S200000x1x4x1, .i32⟩
  | 90 => ⟨S200000x1x4x1, .i32⟩
  | 91 => ⟨S200000x1x4x1, .i32⟩
  | 92 => ⟨S200000x1, .i32⟩
  | 93 => ⟨S200000, .i32⟩
  | 94 => ⟨S200000x1x1x1, .i32⟩
  | 95 => ⟨S1x1x1x4, .i32⟩
  | 96 => ⟨S200000x1x1x4, .i32⟩
  | 97 => ⟨S200000x1x1x4, .i32⟩
  | 98 => ⟨S200000x1x1x4, .i32⟩
  | 99 => ⟨S1x4x1x1, .i32⟩
  | 100 => ⟨S200000x1, .i32⟩
  | 101 => ⟨S200000, .i32⟩
  | 102 => ⟨S200000x1x1x1, .i32⟩
  | 103 => ⟨S200000x4x1x1, .i32⟩
  | 104 => ⟨S200000x4x1x1, .i32⟩
  | 105 => ⟨S200000x4x1x1, .i1⟩
  | 106 => ⟨S1x1x4x1, .i32⟩
  | 107 => ⟨S200000x1, .i32⟩
  | 108 => ⟨S200000, .i32⟩
  | 109 => ⟨S200000x1x1x1, .i32⟩
  | 110 => ⟨S200000x1x4x1, .i32⟩
  | 111 => ⟨S200000x1x4x1, .i32⟩
  | 112 => ⟨S200000x1x4x1, .i1⟩
  | 113 => ⟨S200000x4x4x1, .i1⟩
  | 114 => ⟨S200000x4x4x1, .i1⟩
  | 115 => ⟨S200000x4x4x1, .i1⟩
  | 116 => ⟨S1x1x1x4, .i32⟩
  | 117 => ⟨S200000x1, .i32⟩
  | 118 => ⟨S200000, .i32⟩
  | 119 => ⟨S200000x1x1x1, .i32⟩
  | 120 => ⟨S200000x1x1x4, .i32⟩
  | 121 => ⟨S200000x1x1x4, .i32⟩
  | 122 => ⟨S200000x1x1x4, .i1⟩
  | 123 => ⟨S200000x4x4x4, .i1⟩
  | 124 => ⟨S200000x4x4x4, .i1⟩
  | 125 => ⟨S200000x4x4x4, .i1⟩
  | 126 => ⟨S200000, .i1⟩
  | 127 => ⟨S200000x1x1x1, .i1⟩
  | _ => ⟨S200000x3, .f32⟩

abbrev hbmTy0_2 (i : Nat) : BufTy := match i % 128 with
  | 0 => ⟨S200000x4x4x4, .i1⟩
  | 1 => ⟨S200000x4x4x4, .i1⟩
  | 2 => ⟨S_, .i32⟩
  | 3 => ⟨S_, .i32⟩
  | 4 => ⟨S_, .i32⟩
  | 5 => ⟨S200000x4x1x1, .i32⟩
  | 6 => ⟨S200000x4x1x1, .i32⟩
  | 7 => ⟨S_, .i32⟩
  | 8 => ⟨S200000x4x1x1, .i32⟩
  | 9 => ⟨S200000x4x1x1, .i32⟩
  | 10 => ⟨S200000x4x1x1, .i32⟩
  | 11 => ⟨S_, .i32⟩
  | 12 => ⟨S_, .i32⟩
  | 13 => ⟨S_, .i32⟩
  | 14 => ⟨S200000x1x4x1, .i32⟩
  | 15 => ⟨S200000x1x4x1, .i32⟩
  | 16 => ⟨S_, .i32⟩
  | 17 => ⟨S200000x1x4x1, .i32⟩
  | 18 => ⟨S200000x1x4x1, .i32⟩
  | 19 => ⟨S200000x1x4x1, .i32⟩
  | 20 => ⟨S_, .i32⟩
  | 21 => ⟨S_, .i32⟩
  | 22 => ⟨S_, .i32⟩
  | 23 => ⟨S200000x1x1x4, .i32⟩
  | 24 => ⟨S200000x1x1x4, .i32⟩
  | 25 => ⟨S_, .i32⟩
  | 26 => ⟨S200000x1x1x4, .i32⟩
  | 27 => ⟨S200000x1x1x4, .i32⟩
  | 28 => ⟨S200000x1x1x4, .i32⟩
  | 29 => ⟨S_, .i32⟩
  | 30 => ⟨S200000x4x1x1, .i32⟩
  | 31 => ⟨S200000x4x1x1, .i32⟩
  | 32 => ⟨S200000x4x1x1, .i32⟩
  | 33 => ⟨S_, .i32⟩
  | 34 => ⟨S200000x4x1x1, .i32⟩
  | 35 => ⟨S200000x4x1x1, .i32⟩
  | 36 => ⟨S_, .i32⟩
  | 37 => ⟨S200000x4x1x1, .i32⟩
  | 38 => ⟨S200000x4x1x1, .i32⟩
  | 39 => ⟨S200000x4x1x1, .i32⟩
  | 40 => ⟨S_, .i32⟩
  | 41 => ⟨S200000x4x1x1, .i32⟩
  | 42 => ⟨S200000x4x1x1, .i32⟩
  | 43 => ⟨S_, .i32⟩
  | 44 => ⟨S200000x4x1x1, .i32⟩
  | 45 => ⟨S200000x4x1x1, .i32⟩
  | 46 => ⟨S200000x4x1x1, .i32⟩
  | 47 => ⟨S_, .i32⟩
  | 48 => ⟨S200000x4x1x1, .i32⟩
  | 49 => ⟨S200000x4x1x1, .i32⟩
  | 50 => ⟨S_, .i32⟩
  | 51 => ⟨S200000x4x1x1, .i32⟩
  | 52 => ⟨S200000x4x1x1, .i32⟩
  | 53 => ⟨S200000x4x1x1, .i32⟩
  | 54 => ⟨S_, .i32⟩
  | 55 => ⟨S200000x4x1x1, .i32⟩
  | 56 => ⟨S200000x4x1x1, .i32⟩
  | 57 => ⟨S_, .i32⟩
  | 58 => ⟨S200000x4x1x1, .i32⟩
  | 59 => ⟨S200000x4x1x1, .i32⟩
  | 60 => ⟨S_, .i32⟩
  | 61 => ⟨S200000x1x4x1, .i32⟩
  | 62 => ⟨S200000x1x4x1, .i32⟩
  | 63 => ⟨S200000x1x4x1, .i32⟩
  | 64 => ⟨S_, .i32⟩
  | 65 => ⟨S200000x1x4x1, .i32⟩
  | 66 => ⟨S200000x1x4x1, .i32⟩
  | 67 => ⟨S_, .i32⟩
  | 68 => ⟨S200000x1x4x1, .i32⟩
  | 69 => ⟨S200000x1x4x1, .i32⟩
  | 70 => ⟨S200000x1x4x1, .i32⟩
  | 71 => ⟨S_, .i32⟩
  | 72 => ⟨S200000x1x4x1, .i32⟩
  | 73 => ⟨S200000x1x4x1, .i32⟩
  | 74 => ⟨S_, .i32⟩
  | 75 => ⟨S200000x1x4x1, .i32⟩
  | 76 => ⟨S200000x1x4x1, .i32⟩
  | 77 => ⟨S200000x1x4x1, .i32⟩
  | 78 => ⟨S_, .i32⟩
  | 79 => ⟨S200000x1x4x1, .i32⟩
  | 80 => ⟨S200000x1x4x1, .i32⟩
  | 81 => ⟨S_, .i32⟩
  | 82 => ⟨S200000x1x4x1, .i32⟩
  | 83 => ⟨S200000x1x4x1, .i32⟩
  | 84 => ⟨S200000x1x4x1, .i32⟩
  | 85 => ⟨S_, .i32⟩
  | 86 => ⟨S200000x1x4x1, .i32⟩
  | 87 => ⟨S200000x1x4x1, .i32⟩
  | 88 => ⟨S_, .i32⟩
  | 89 => ⟨S200000x1x4x1, .i32⟩
  | 90 => ⟨S200000x1x4x1, .i32⟩
  | 91 => ⟨S200000x4x4x1, .i32⟩
  | 92 => ⟨S200000x4x4x1, .i32⟩
  | 93 => ⟨S200000x4x4x1, .i32⟩
  | 94 => ⟨S_, .i32⟩
  | 95 => ⟨S200000x1x1x4, .i32⟩
  | 96 => ⟨S200000x1x1x4, .i32⟩
  | 97 => ⟨S200000x1x1x4, .i32⟩
  | 98 => ⟨S_, .i32⟩
  | 99 => ⟨S200000x1x1x4, .i32⟩
  | 100 => ⟨S200000x1x1x4, .i32⟩
  | 101 => ⟨S_, .i32⟩
  | 102 => ⟨S200000x1x1x4, .i32⟩
  | 103 => ⟨S200000x1x1x4, .i32⟩
  | 104 => ⟨S200000x1x1x4, .i32⟩
  | 105 => ⟨S_, .i32⟩
  | 106 => ⟨S200000x1x1x4, .i32⟩
  | 107 => ⟨S200000x1x1x4, .i32⟩
  | 108 => ⟨S_, .i32⟩
  | 109 => ⟨S200000x1x1x4, .i32⟩
  | 110 => ⟨S200000x1x1x4, .i32⟩
  | 111 => ⟨S200000x1x1x4, .i32⟩
  | 112 => ⟨S_, .i32⟩
  | 113 => ⟨S200000x1x1x4, .i32⟩
  | 114 => ⟨S200000x1x1x4, .i32⟩
  | 115 => ⟨S_, .i32⟩
  | 116 => ⟨S200000x1x1x4, .i32⟩
  | 117 => ⟨S200000x1x1x4, .i32⟩
  | 118 => ⟨S200000x1x1x4, .i32⟩
  | 119 => ⟨S_, .i32⟩
  | 120 => ⟨S200000x1x1x4, .i32⟩
  | 121 => ⟨S200000x1x1x4, .i32⟩
  | 122 => ⟨S200000x4x4x4, .i32⟩
  | 123 => ⟨S200000x4x4x4, .i32⟩
  | 124 => ⟨S200000x4x4x4, .i32⟩
  | 125 => ⟨S200000x4x4x4, .i32⟩
  | 126 => ⟨S_, .i32⟩
  | 127 => ⟨S200000x4x4x4, .i32⟩
  | _ => ⟨S200000x3, .f32⟩

abbrev hbmTy0_3 (i : Nat) : BufTy := match i % 128 with
  | 0 => ⟨S200000x4x4x4, .i32⟩
  | 1 => ⟨S200000, .i32⟩
  | 2 => ⟨S200000x1x1x1, .i32⟩
  | 3 => ⟨S200000x4x4x4, .i32⟩
  | 4 => ⟨S_, .i32⟩
  | 5 => ⟨S200000x4x1x1, .i32⟩
  | 6 => ⟨S200000x4x1x1, .i32⟩
  | 7 => ⟨S_, .i32⟩
  | 8 => ⟨S_, .i32⟩
  | 9 => ⟨S_, .i32⟩
  | 10 => ⟨S200000x4x1x1, .i32⟩
  | 11 => ⟨S200000x4x1x1, .i32⟩
  | 12 => ⟨S_, .i32⟩
  | 13 => ⟨S200000x4x1x1, .i32⟩
  | 14 => ⟨S200000x4x1x1, .i32⟩
  | 15 => ⟨S_, .i32⟩
  | 16 => ⟨S200000x4x1x1, .i32⟩
  | 17 => ⟨S200000x4x1x1, .i32⟩
  | 18 => ⟨S_, .i32⟩
  | 19 => ⟨S200000x1x4x1, .i32⟩
  | 20 => ⟨S200000x1x4x1, .i32⟩
  | 21 => ⟨S_, .i32⟩
  | 22 => ⟨S_, .i32⟩
  | 23 => ⟨S_, .i32⟩
  | 24 => ⟨S200000x1x4x1, .i32⟩
  | 25 => ⟨S200000x1x4x1, .i32⟩
  | 26 => ⟨S_, .i32⟩
  | 27 => ⟨S200000x1x4x1, .i32⟩
  | 28 => ⟨S200000x1x4x1, .i32⟩
  | 29 => ⟨S_, .i32⟩
  | 30 => ⟨S200000x1x4x1, .i32⟩
  | 31 => ⟨S200000x1x4x1, .i32⟩
  | 32 => ⟨S200000x4x4x1, .i32⟩
  | 33 => ⟨S200000x4x4x1, .i32⟩
  | 34 => ⟨S200000x4x4x1, .i32⟩
  | 35 => ⟨S_, .i32⟩
  | 36 => ⟨S200000x1x1x4, .i32⟩
  | 37 => ⟨S200000x1x1x4, .i32⟩
  | 38 => ⟨S_, .i32⟩
  | 39 => ⟨S_, .i32⟩
  | 40 => ⟨S_, .i32⟩
  | 41 => ⟨S200000x1x1x4, .i32⟩
  | 42 => ⟨S200000x1x1x4, .i32⟩
  | 43 => ⟨S_, .i32⟩
  | 44 => ⟨S200000x1x1x4, .i32⟩
  | 45 => ⟨S200000x1x1x4, .i32⟩
  | 46 => ⟨S200000x4x4x4, .i32⟩
  | 47 => ⟨S200000x4x4x4, .i32⟩
  | 48 => ⟨S200000x4x4x4, .i32⟩
  | 49 => ⟨S12800000, .i32⟩
  | 50 => ⟨S12800000, .i32⟩
  | 51 => ⟨S12800000, .i1⟩
  | 52 => ⟨S12800000, .i32⟩
  | 53 => ⟨S12800000, .i32⟩
  | 54 => ⟨S12800000, .i32⟩
  | 55 => ⟨S12800000, .i32⟩
  | 56 => ⟨S_, .i32⟩
  | 57 => ⟨S12800000, .i32⟩
  | 58 => ⟨S12800000, .i1⟩
  | 59 => ⟨S_, .i32⟩
  | 60 => ⟨S12800000, .i32⟩
  | 61 => ⟨S12800000, .i32⟩
  | 62 => ⟨S12800000, .i32⟩
  | 63 => ⟨S12800000x1, .i32⟩
  | 64 => ⟨S12800000, .i32⟩
  | 65 => ⟨S_, .i32⟩
  | 66 => ⟨S12800000, .i32⟩
  | 67 => ⟨S12800000, .i1⟩
  | 68 => ⟨S_, .i32⟩
  | 69 => ⟨S12800000, .i32⟩
  | 70 => ⟨S12800000, .i32⟩
  | 71 => ⟨S12800000, .i32⟩
  | 72 => ⟨S12800000x1, .i32⟩
  | 73 => ⟨S12800000, .i32⟩
  | 74 => ⟨S_, .i32⟩
  | 75 => ⟨S12800000, .i32⟩
  | 76 => ⟨S12800000, .i1⟩
  | 77 => ⟨S_, .i32⟩
  | 78 => ⟨S12800000, .i32⟩
  | 79 => ⟨S12800000, .i32⟩
  | 80 => ⟨S12800000, .i32⟩
  | 81 => ⟨S12800000x1, .i32⟩
  | 82 => ⟨S12800000, .i1⟩
  | 83 => ⟨S_, .i32⟩
  | 84 => ⟨S_, .i32⟩
  | 85 => ⟨S_, .i32⟩
  | 86 => ⟨S32768, .i32⟩
  | 87 => ⟨S12800000, .i32⟩
  | 88 => ⟨S_, .i32⟩
  | 89 => ⟨S12800000, .i32⟩
  | 90 => ⟨S12800000, .i1⟩
  | 91 => ⟨S_, .i32⟩
  | 92 => ⟨S12800000, .i32⟩
  | 93 => ⟨S12800000, .i32⟩
  | 94 => ⟨S12800000, .i32⟩
  | 95 => ⟨S12800000x1, .i32⟩
  | 96 => ⟨S32768, .i32⟩
  | 97 => ⟨S_, .i32⟩
  | 98 => ⟨S_, .i32⟩
  | 99 => ⟨S32768, .i32⟩
  | 100 => ⟨S32768, .i32⟩
  | 101 => ⟨S_, .i32⟩
  | 102 => ⟨S32768, .i32⟩
  | 103 => ⟨S32768, .i1⟩
  | 104 => ⟨S_, .i32⟩
  | 105 => ⟨S_, .i32⟩
  | 106 => ⟨S32768, .i32⟩
  | 107 => ⟨S32768, .i32⟩
  | 108 => ⟨S_, .i32⟩
  | 109 => ⟨S1, .i32⟩
  | 110 => ⟨S12799999, .i32⟩
  | 111 => ⟨S12800000, .i32⟩
  | 112 => ⟨S12800000, .i1⟩
  | 113 => ⟨S12800000, .i1⟩
  | 114 => ⟨S12800000, .i32⟩
  | 115 => ⟨S_, .i32⟩
  | 116 => ⟨S_, .i32⟩
  | 117 => ⟨S200000, .i32⟩
  | 118 => ⟨S_, .i32⟩
  | 119 => ⟨S_, .i32⟩
  | 120 => ⟨S200000, .i32⟩
  | 121 => ⟨S200000, .i32⟩
  | _ => ⟨S200000x3, .f32⟩

abbrev hbmTy (i : Nat) : BufTy := match i / 128 with
  | 0 => hbmTy0_0 i
  | 1 => hbmTy0_1 i
  | 2 => hbmTy0_2 i
  | 3 => hbmTy0_3 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_cst_1 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_cst_2 : Ref sig .tc := ⟨.hbm, 26, rfl⟩
abbrev main_call0_v10 : Ref sig .tc := ⟨.hbm, 27, rfl⟩
abbrev main_call0_cst_3 : Ref sig .tc := ⟨.hbm, 28, rfl⟩
abbrev main_call0_cst_4 : Ref sig .tc := ⟨.hbm, 29, rfl⟩
abbrev main_call0_v11 : Ref sig .tc := ⟨.hbm, 30, rfl⟩
abbrev main_call0_cst_5 : Ref sig .tc := ⟨.hbm, 31, rfl⟩
abbrev main_call0_v12 : Ref sig .tc := ⟨.hbm, 32, rfl⟩
abbrev main_call0_cst_6 : Ref sig .tc := ⟨.hbm, 33, rfl⟩
abbrev main_call0_cst_7 : Ref sig .tc := ⟨.hbm, 34, rfl⟩
abbrev main_call0_v13 : Ref sig .tc := ⟨.hbm, 35, rfl⟩
abbrev main_call0_cst_8 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_v6 : Ref sig .tc := ⟨.hbm, 48, rfl⟩
abbrev main_cst_0 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_cst : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_v2 : Ref sig .tc := ⟨.hbm, 57, rfl⟩
abbrev main_call1_v3 : Ref sig .tc := ⟨.hbm, 58, rfl⟩
abbrev main_call1_v4 : Ref sig .tc := ⟨.hbm, 59, rfl⟩
abbrev main_call1_cst_0 : Ref sig .tc := ⟨.hbm, 60, rfl⟩
abbrev main_call1_cst_1 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_cst_2 : Ref sig .tc := ⟨.hbm, 67, rfl⟩
abbrev main_call1_v10 : Ref sig .tc := ⟨.hbm, 68, rfl⟩
abbrev main_call1_cst_3 : Ref sig .tc := ⟨.hbm, 69, rfl⟩
abbrev main_call1_cst_4 : Ref sig .tc := ⟨.hbm, 70, rfl⟩
abbrev main_call1_v11 : Ref sig .tc := ⟨.hbm, 71, rfl⟩
abbrev main_call1_cst_5 : Ref sig .tc := ⟨.hbm, 72, rfl⟩
abbrev main_call1_v12 : Ref sig .tc := ⟨.hbm, 73, rfl⟩
abbrev main_call1_cst_6 : Ref sig .tc := ⟨.hbm, 74, rfl⟩
abbrev main_call1_cst_7 : Ref sig .tc := ⟨.hbm, 75, rfl⟩
abbrev main_call1_v13 : Ref sig .tc := ⟨.hbm, 76, rfl⟩
abbrev main_call1_cst_8 : Ref sig .tc := ⟨.hbm, 77, rfl⟩
abbrev main_call1_v14 : Ref sig .tc := ⟨.hbm, 78, rfl⟩
abbrev main_call1_v15 : Ref sig .tc := ⟨.hbm, 79, rfl⟩
abbrev main_call1_v16 : Ref sig .tc := ⟨.hbm, 80, rfl⟩
abbrev main_call1_v17 : Ref sig .tc := ⟨.hbm, 81, rfl⟩
abbrev main_call1_v18 : Ref sig .tc := ⟨.hbm, 82, rfl⟩
abbrev main_call1_v19 : Ref sig .tc := ⟨.hbm, 83, rfl⟩
abbrev main_call1_v20 : Ref sig .tc := ⟨.hbm, 84, rfl⟩
abbrev main_call1_v21 : Ref sig .tc := ⟨.hbm, 85, rfl⟩
abbrev main_call1_v22 : Ref sig .tc := ⟨.hbm, 86, rfl⟩
abbrev main_call1_v23 : Ref sig .tc := ⟨.hbm, 87, rfl⟩
abbrev main_call1_v24 : Ref sig .tc := ⟨.hbm, 88, rfl⟩
abbrev main_v7 : Ref sig .tc := ⟨.hbm, 89, rfl⟩
abbrev main_v8 : Ref sig .tc := ⟨.hbm, 90, rfl⟩
abbrev main_cst_1 : Ref sig .tc := ⟨.hbm, 91, rfl⟩
abbrev main_v9 : Ref sig .tc := ⟨.hbm, 92, rfl⟩
abbrev main_v10 : Ref sig .tc := ⟨.hbm, 93, rfl⟩
abbrev main_v11 : Ref sig .tc := ⟨.hbm, 94, rfl⟩
abbrev main_v12 : Ref sig .tc := ⟨.hbm, 95, rfl⟩
abbrev main_cst_2 : Ref sig .tc := ⟨.hbm, 96, rfl⟩
abbrev main_v13 : Ref sig .tc := ⟨.hbm, 97, rfl⟩
abbrev main_call2_cst : Ref sig .tc := ⟨.hbm, 98, rfl⟩
abbrev main_call2_call0_v0 : Ref sig .tc := ⟨.hbm, 99, rfl⟩
abbrev main_call2_call0_c : Ref sig .tc := ⟨.hbm, 100, rfl⟩
abbrev main_call2_call0_v1 : Ref sig .tc := ⟨.hbm, 101, rfl⟩
abbrev main_call2_call0_v2 : Ref sig .tc := ⟨.hbm, 102, rfl⟩
abbrev main_call2_call0_cst : Ref sig .tc := ⟨.hbm, 103, rfl⟩
abbrev main_call2_call0_call0_v0 : Ref sig .tc := ⟨.hbm, 104, rfl⟩
abbrev main_call2_call0_call0_v1 : Ref sig .tc := ⟨.hbm, 105, rfl⟩
abbrev main_call2_call0_call0_v2 : Ref sig .tc := ⟨.hbm, 106, rfl⟩
abbrev main_call2_call0_v3 : Ref sig .tc := ⟨.hbm, 107, rfl⟩
abbrev main_call2_call0_v4 : Ref sig .tc := ⟨.hbm, 108, rfl⟩
abbrev main_call2_call0_cst_0 : Ref sig .tc := ⟨.hbm, 109, rfl⟩
abbrev main_call2_call0_cst_1 : Ref sig .tc := ⟨.hbm, 110, rfl⟩
abbrev main_call2_call0_v5 : Ref sig .tc := ⟨.hbm, 111, rfl⟩
abbrev main_call2_call0_v6 : Ref sig .tc := ⟨.hbm, 112, rfl⟩
abbrev main_call2_call0_v7 : Ref sig .tc := ⟨.hbm, 113, rfl⟩
abbrev main_call2_call0_v8 : Ref sig .tc := ⟨.hbm, 114, rfl⟩
abbrev main_call2_call0_v9 : Ref sig .tc := ⟨.hbm, 115, rfl⟩
abbrev main_call2_call0_cst_2 : Ref sig .tc := ⟨.hbm, 116, rfl⟩
abbrev main_call2_call0_v10 : Ref sig .tc := ⟨.hbm, 117, rfl⟩
abbrev main_call2_call0_cst_3 : Ref sig .tc := ⟨.hbm, 118, rfl⟩
abbrev main_call2_call0_cst_4 : Ref sig .tc := ⟨.hbm, 119, rfl⟩
abbrev main_call2_call0_v11 : Ref sig .tc := ⟨.hbm, 120, rfl⟩
abbrev main_call2_call0_cst_5 : Ref sig .tc := ⟨.hbm, 121, rfl⟩
abbrev main_call2_call0_v12 : Ref sig .tc := ⟨.hbm, 122, rfl⟩
abbrev main_call2_call0_cst_6 : Ref sig .tc := ⟨.hbm, 123, rfl⟩
abbrev main_call2_call0_cst_7 : Ref sig .tc := ⟨.hbm, 124, rfl⟩
abbrev main_call2_call0_v13 : Ref sig .tc := ⟨.hbm, 125, rfl⟩
abbrev main_call2_call0_cst_8 : Ref sig .tc := ⟨.hbm, 126, rfl⟩
abbrev main_call2_call0_v14 : Ref sig .tc := ⟨.hbm, 127, rfl⟩
abbrev main_call2_call0_v15 : Ref sig .tc := ⟨.hbm, 128, rfl⟩
abbrev main_call2_call0_v16 : Ref sig .tc := ⟨.hbm, 129, rfl⟩
abbrev main_call2_call0_v17 : Ref sig .tc := ⟨.hbm, 130, rfl⟩
abbrev main_call2_call0_v18 : Ref sig .tc := ⟨.hbm, 131, rfl⟩
abbrev main_call2_call0_v19 : Ref sig .tc := ⟨.hbm, 132, rfl⟩
abbrev main_call2_call0_v20 : Ref sig .tc := ⟨.hbm, 133, rfl⟩
abbrev main_call2_call0_v21 : Ref sig .tc := ⟨.hbm, 134, rfl⟩
abbrev main_call2_call0_cst_9 : Ref sig .tc := ⟨.hbm, 135, rfl⟩
abbrev main_v14 : Ref sig .tc := ⟨.hbm, 136, rfl⟩
abbrev main_cst_3 : Ref sig .tc := ⟨.hbm, 137, rfl⟩
abbrev main_v15 : Ref sig .tc := ⟨.hbm, 138, rfl⟩
abbrev main_cst_4 : Ref sig .tc := ⟨.hbm, 139, rfl⟩
abbrev main_v16 : Ref sig .tc := ⟨.hbm, 140, rfl⟩
abbrev main_v17 : Ref sig .tc := ⟨.hbm, 141, rfl⟩
abbrev main_v18 : Ref sig .tc := ⟨.hbm, 142, rfl⟩
abbrev main_v19 : Ref sig .tc := ⟨.hbm, 143, rfl⟩
abbrev main_v20 : Ref sig .tc := ⟨.hbm, 144, rfl⟩
abbrev main_v21 : Ref sig .tc := ⟨.hbm, 145, rfl⟩
abbrev main_v22 : Ref sig .tc := ⟨.hbm, 146, rfl⟩
abbrev main_v23 : Ref sig .tc := ⟨.hbm, 147, rfl⟩
abbrev main_c : Ref sig .tc := ⟨.hbm, 148, rfl⟩
abbrev main_c_5 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_v24 : Ref sig .tc := ⟨.hbm, 155, rfl⟩
abbrev main_v25 : Ref sig .tc := ⟨.hbm, 156, rfl⟩
abbrev main_v26 : Ref sig .tc := ⟨.hbm, 157, rfl⟩
abbrev main_v27 : Ref sig .tc := ⟨.hbm, 158, rfl⟩
abbrev main_v28 : Ref sig .tc := ⟨.hbm, 159, rfl⟩
abbrev main_v29 : Ref sig .tc := ⟨.hbm, 160, rfl⟩
abbrev main_v30 : Ref sig .tc := ⟨.hbm, 161, rfl⟩
abbrev main_v31 : Ref sig .tc := ⟨.hbm, 162, rfl⟩
abbrev main_c_6 : Ref sig .tc := ⟨.hbm, 163, rfl⟩
abbrev main_c_7 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_call4_v3 : Ref sig .tc := ⟨.hbm, 168, rfl⟩
abbrev main_call4_v4 : Ref sig .tc := ⟨.hbm, 169, rfl⟩
abbrev main_v32 : Ref sig .tc := ⟨.hbm, 170, rfl⟩
abbrev main_v33 : Ref sig .tc := ⟨.hbm, 171, rfl⟩
abbrev main_c_8 : Ref sig .tc := ⟨.hbm, 172, rfl⟩
abbrev main_v34 : Ref sig .tc := ⟨.hbm, 173, rfl⟩
abbrev main_v35 : Ref sig .tc := ⟨.hbm, 174, rfl⟩
abbrev main_v36 : Ref sig .tc := ⟨.hbm, 175, rfl⟩
abbrev main_v37 : Ref sig .tc := ⟨.hbm, 176, rfl⟩
abbrev main_v38 : Ref sig .tc := ⟨.hbm, 177, rfl⟩
abbrev main_v39 : Ref sig .tc := ⟨.hbm, 178, rfl⟩
abbrev main_v40 : Ref sig .tc := ⟨.hbm, 179, rfl⟩
abbrev main_v41 : Ref sig .tc := ⟨.hbm, 180, rfl⟩
abbrev main_v42 : Ref sig .tc := ⟨.hbm, 181, rfl⟩
abbrev main_v43 : Ref sig .tc := ⟨.hbm, 182, rfl⟩
abbrev main_c_9 : Ref sig .tc := ⟨.hbm, 183, rfl⟩
abbrev main_v44 : Ref sig .tc := ⟨.hbm, 184, rfl⟩
abbrev main_v45 : Ref sig .tc := ⟨.hbm, 185, rfl⟩
abbrev main_c_10 : Ref sig .tc := ⟨.hbm, 186, rfl⟩
abbrev main_v46 : Ref sig .tc := ⟨.hbm, 187, rfl⟩
abbrev main_v47 : Ref sig .tc := ⟨.hbm, 188, rfl⟩
abbrev main_c_11 : Ref sig .tc := ⟨.hbm, 189, rfl⟩
abbrev main_v48 : Ref sig .tc := ⟨.hbm, 190, rfl⟩
abbrev main_v49 : Ref sig .tc := ⟨.hbm, 191, rfl⟩
abbrev main_c_12 : Ref sig .tc := ⟨.hbm, 192, rfl⟩
abbrev main_call5_v0 : Ref sig .tc := ⟨.hbm, 193, rfl⟩
abbrev main_call5_v1 : Ref sig .tc := ⟨.hbm, 194, rfl⟩
abbrev main_v50 : Ref sig .tc := ⟨.hbm, 195, rfl⟩
abbrev main_c_13 : Ref sig .tc := ⟨.hbm, 196, rfl⟩
abbrev main_v51 : Ref sig .tc := ⟨.hbm, 197, rfl⟩
abbrev main_call6_call0_c : Ref sig .tc := ⟨.hbm, 198, rfl⟩
abbrev main_call6_call0_v0 : Ref sig .tc := ⟨.hbm, 199, rfl⟩
abbrev main_v52 : Ref sig .tc := ⟨.hbm, 200, rfl⟩
abbrev main_v53 : Ref sig .tc := ⟨.hbm, 201, rfl⟩
abbrev main_v54 : Ref sig .tc := ⟨.hbm, 202, rfl⟩
abbrev main_v55 : Ref sig .tc := ⟨.hbm, 203, rfl⟩
abbrev main_v56 : Ref sig .tc := ⟨.hbm, 204, rfl⟩
abbrev main_v57 : Ref sig .tc := ⟨.hbm, 205, rfl⟩
abbrev main_v58 : Ref sig .tc := ⟨.hbm, 206, rfl⟩
abbrev main_v59 : Ref sig .tc := ⟨.hbm, 207, rfl⟩
abbrev main_v60 : Ref sig .tc := ⟨.hbm, 208, rfl⟩
abbrev main_v61 : Ref sig .tc := ⟨.hbm, 209, rfl⟩
abbrev main_v62 : Ref sig .tc := ⟨.hbm, 210, rfl⟩
abbrev main_v63 : Ref sig .tc := ⟨.hbm, 211, rfl⟩
abbrev main_v64 : Ref sig .tc := ⟨.hbm, 212, rfl⟩
abbrev main_v65 : Ref sig .tc := ⟨.hbm, 213, rfl⟩
abbrev main_v66 : Ref sig .tc := ⟨.hbm, 214, rfl⟩
abbrev main_v67 : Ref sig .tc := ⟨.hbm, 215, rfl⟩
abbrev main_v68 : Ref sig .tc := ⟨.hbm, 216, rfl⟩
abbrev main_v69 : Ref sig .tc := ⟨.hbm, 217, rfl⟩
abbrev main_v70 : Ref sig .tc := ⟨.hbm, 218, rfl⟩
abbrev main_v71 : Ref sig .tc := ⟨.hbm, 219, rfl⟩
abbrev main_v72 : Ref sig .tc := ⟨.hbm, 220, rfl⟩
abbrev main_v73 : Ref sig .tc := ⟨.hbm, 221, rfl⟩
abbrev main_v74 : Ref sig .tc := ⟨.hbm, 222, rfl⟩
abbrev main_v75 : Ref sig .tc := ⟨.hbm, 223, rfl⟩
abbrev main_v76 : Ref sig .tc := ⟨.hbm, 224, rfl⟩
abbrev main_v77 : Ref sig .tc := ⟨.hbm, 225, rfl⟩
abbrev main_v78 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩
abbrev main_v84 : Ref sig .tc := ⟨.hbm, 232, rfl⟩
abbrev main_v85 : Ref sig .tc := ⟨.hbm, 233, rfl⟩
abbrev main_v86 : Ref sig .tc := ⟨.hbm, 234, rfl⟩
abbrev main_v87 : Ref sig .tc := ⟨.hbm, 235, rfl⟩
abbrev main_v88 : Ref sig .tc := ⟨.hbm, 236, rfl⟩
abbrev main_v89 : Ref sig .tc := ⟨.hbm, 237, rfl⟩
abbrev main_v90 : Ref sig .tc := ⟨.hbm, 238, rfl⟩
abbrev main_v91 : Ref sig .tc := ⟨.hbm, 239, rfl⟩
abbrev main_v92 : Ref sig .tc := ⟨.hbm, 240, rfl⟩
abbrev main_v93 : Ref sig .tc := ⟨.hbm, 241, rfl⟩
abbrev main_v94 : Ref sig .tc := ⟨.hbm, 242, rfl⟩
abbrev main_v95 : Ref sig .tc := ⟨.hbm, 243, rfl⟩
abbrev main_v96 : Ref sig .tc := ⟨.hbm, 244, rfl⟩
abbrev main_v97 : Ref sig .tc := ⟨.hbm, 245, rfl⟩
abbrev main_v98 : Ref sig .tc := ⟨.hbm, 246, rfl⟩
abbrev main_v99 : Ref sig .tc := ⟨.hbm, 247, rfl⟩
abbrev main_v100 : Ref sig .tc := ⟨.hbm, 248, rfl⟩
abbrev main_v101 : Ref sig .tc := ⟨.hbm, 249, rfl⟩
abbrev main_v102 : Ref sig .tc := ⟨.hbm, 250, rfl⟩
abbrev main_v103 : Ref sig .tc := ⟨.hbm, 251, rfl⟩
abbrev main_v104 : Ref sig .tc := ⟨.hbm, 252, rfl⟩
abbrev main_v105 : Ref sig .tc := ⟨.hbm, 253, rfl⟩
abbrev main_v106 : Ref sig .tc := ⟨.hbm, 254, rfl⟩
abbrev main_v107 : Ref sig .tc := ⟨.hbm, 255, rfl⟩
abbrev main_v108 : Ref sig .tc := ⟨.hbm, 256, rfl⟩
abbrev main_v109 : Ref sig .tc := ⟨.hbm, 257, rfl⟩
abbrev main_c_14 : Ref sig .tc := ⟨.hbm, 258, rfl⟩
abbrev main_c_15 : Ref sig .tc := ⟨.hbm, 259, rfl⟩
abbrev main_call7_v0 : Ref sig .tc := ⟨.hbm, 260, rfl⟩
abbrev main_call7_v1 : Ref sig .tc := ⟨.hbm, 261, rfl⟩
abbrev main_call7_v2 : Ref sig .tc := ⟨.hbm, 262, rfl⟩
abbrev main_call7_v3 : Ref sig .tc := ⟨.hbm, 263, rfl⟩
abbrev main_call7_v4 : Ref sig .tc := ⟨.hbm, 264, rfl⟩
abbrev main_v110 : Ref sig .tc := ⟨.hbm, 265, rfl⟩
abbrev main_v111 : Ref sig .tc := ⟨.hbm, 266, rfl⟩
abbrev main_c_16 : Ref sig .tc := ⟨.hbm, 267, rfl⟩
abbrev main_c_17 : Ref sig .tc := ⟨.hbm, 268, rfl⟩
abbrev main_call8_v0 : Ref sig .tc := ⟨.hbm, 269, rfl⟩
abbrev main_call8_v1 : Ref sig .tc := ⟨.hbm, 270, rfl⟩
abbrev main_call8_v2 : Ref sig .tc := ⟨.hbm, 271, rfl⟩
abbrev main_call8_v3 : Ref sig .tc := ⟨.hbm, 272, rfl⟩
abbrev main_call8_v4 : Ref sig .tc := ⟨.hbm, 273, rfl⟩
abbrev main_v112 : Ref sig .tc := ⟨.hbm, 274, rfl⟩
abbrev main_v113 : Ref sig .tc := ⟨.hbm, 275, rfl⟩
abbrev main_c_18 : Ref sig .tc := ⟨.hbm, 276, rfl⟩
abbrev main_c_19 : Ref sig .tc := ⟨.hbm, 277, rfl⟩
abbrev main_call9_v0 : Ref sig .tc := ⟨.hbm, 278, rfl⟩
abbrev main_call9_v1 : Ref sig .tc := ⟨.hbm, 279, rfl⟩
abbrev main_call9_v2 : Ref sig .tc := ⟨.hbm, 280, rfl⟩
abbrev main_call9_v3 : Ref sig .tc := ⟨.hbm, 281, rfl⟩
abbrev main_call9_v4 : Ref sig .tc := ⟨.hbm, 282, rfl⟩
abbrev main_v114 : Ref sig .tc := ⟨.hbm, 283, rfl⟩
abbrev main_v115 : Ref sig .tc := ⟨.hbm, 284, rfl⟩
abbrev main_c_20 : Ref sig .tc := ⟨.hbm, 285, rfl⟩
abbrev main_v116 : Ref sig .tc := ⟨.hbm, 286, rfl⟩
abbrev main_v117 : Ref sig .tc := ⟨.hbm, 287, rfl⟩
abbrev main_v118 : Ref sig .tc := ⟨.hbm, 288, rfl⟩
abbrev main_c_21 : Ref sig .tc := ⟨.hbm, 289, rfl⟩
abbrev main_v119 : Ref sig .tc := ⟨.hbm, 290, rfl⟩
abbrev main_v120 : Ref sig .tc := ⟨.hbm, 291, rfl⟩
abbrev main_c_22 : Ref sig .tc := ⟨.hbm, 292, rfl⟩
abbrev main_v121 : Ref sig .tc := ⟨.hbm, 293, rfl⟩
abbrev main_v122 : Ref sig .tc := ⟨.hbm, 294, rfl⟩
abbrev main_v123 : Ref sig .tc := ⟨.hbm, 295, rfl⟩
abbrev main_c_23 : Ref sig .tc := ⟨.hbm, 296, rfl⟩
abbrev main_v124 : Ref sig .tc := ⟨.hbm, 297, rfl⟩
abbrev main_v125 : Ref sig .tc := ⟨.hbm, 298, rfl⟩
abbrev main_c_24 : Ref sig .tc := ⟨.hbm, 299, rfl⟩
abbrev main_v126 : Ref sig .tc := ⟨.hbm, 300, rfl⟩
abbrev main_v127 : Ref sig .tc := ⟨.hbm, 301, rfl⟩
abbrev main_v128 : Ref sig .tc := ⟨.hbm, 302, rfl⟩
abbrev main_c_25 : Ref sig .tc := ⟨.hbm, 303, rfl⟩
abbrev main_v129 : Ref sig .tc := ⟨.hbm, 304, rfl⟩
abbrev main_v130 : Ref sig .tc := ⟨.hbm, 305, rfl⟩
abbrev main_c_26 : Ref sig .tc := ⟨.hbm, 306, rfl⟩
abbrev main_v131 : Ref sig .tc := ⟨.hbm, 307, rfl⟩
abbrev main_v132 : Ref sig .tc := ⟨.hbm, 308, rfl⟩
abbrev main_v133 : Ref sig .tc := ⟨.hbm, 309, rfl⟩
abbrev main_c_27 : Ref sig .tc := ⟨.hbm, 310, rfl⟩
abbrev main_v134 : Ref sig .tc := ⟨.hbm, 311, rfl⟩
abbrev main_v135 : Ref sig .tc := ⟨.hbm, 312, rfl⟩
abbrev main_c_28 : Ref sig .tc := ⟨.hbm, 313, rfl⟩
abbrev main_v136 : Ref sig .tc := ⟨.hbm, 314, rfl⟩
abbrev main_v137 : Ref sig .tc := ⟨.hbm, 315, rfl⟩
abbrev main_c_29 : Ref sig .tc := ⟨.hbm, 316, rfl⟩
abbrev main_v138 : Ref sig .tc := ⟨.hbm, 317, rfl⟩
abbrev main_v139 : Ref sig .tc := ⟨.hbm, 318, rfl⟩
abbrev main_v140 : Ref sig .tc := ⟨.hbm, 319, rfl⟩
abbrev main_c_30 : Ref sig .tc := ⟨.hbm, 320, rfl⟩
abbrev main_v141 : Ref sig .tc := ⟨.hbm, 321, rfl⟩
abbrev main_v142 : Ref sig .tc := ⟨.hbm, 322, rfl⟩
abbrev main_c_31 : Ref sig .tc := ⟨.hbm, 323, rfl⟩
abbrev main_v143 : Ref sig .tc := ⟨.hbm, 324, rfl⟩
abbrev main_v144 : Ref sig .tc := ⟨.hbm, 325, rfl⟩
abbrev main_v145 : Ref sig .tc := ⟨.hbm, 326, rfl⟩
abbrev main_c_32 : Ref sig .tc := ⟨.hbm, 327, rfl⟩
abbrev main_v146 : Ref sig .tc := ⟨.hbm, 328, rfl⟩
abbrev main_v147 : Ref sig .tc := ⟨.hbm, 329, rfl⟩
abbrev main_c_33 : Ref sig .tc := ⟨.hbm, 330, rfl⟩
abbrev main_v148 : Ref sig .tc := ⟨.hbm, 331, rfl⟩
abbrev main_v149 : Ref sig .tc := ⟨.hbm, 332, rfl⟩
abbrev main_v150 : Ref sig .tc := ⟨.hbm, 333, rfl⟩
abbrev main_c_34 : Ref sig .tc := ⟨.hbm, 334, rfl⟩
abbrev main_v151 : Ref sig .tc := ⟨.hbm, 335, rfl⟩
abbrev main_v152 : Ref sig .tc := ⟨.hbm, 336, rfl⟩
abbrev main_c_35 : Ref sig .tc := ⟨.hbm, 337, rfl⟩
abbrev main_v153 : Ref sig .tc := ⟨.hbm, 338, rfl⟩
abbrev main_v154 : Ref sig .tc := ⟨.hbm, 339, rfl⟩
abbrev main_v155 : Ref sig .tc := ⟨.hbm, 340, rfl⟩
abbrev main_c_36 : Ref sig .tc := ⟨.hbm, 341, rfl⟩
abbrev main_v156 : Ref sig .tc := ⟨.hbm, 342, rfl⟩
abbrev main_v157 : Ref sig .tc := ⟨.hbm, 343, rfl⟩
abbrev main_c_37 : Ref sig .tc := ⟨.hbm, 344, rfl⟩
abbrev main_v158 : Ref sig .tc := ⟨.hbm, 345, rfl⟩
abbrev main_v159 : Ref sig .tc := ⟨.hbm, 346, rfl⟩
abbrev main_v160 : Ref sig .tc := ⟨.hbm, 347, rfl⟩
abbrev main_v161 : Ref sig .tc := ⟨.hbm, 348, rfl⟩
abbrev main_v162 : Ref sig .tc := ⟨.hbm, 349, rfl⟩
abbrev main_c_38 : Ref sig .tc := ⟨.hbm, 350, rfl⟩
abbrev main_v163 : Ref sig .tc := ⟨.hbm, 351, rfl⟩
abbrev main_v164 : Ref sig .tc := ⟨.hbm, 352, rfl⟩
abbrev main_v165 : Ref sig .tc := ⟨.hbm, 353, rfl⟩
abbrev main_c_39 : Ref sig .tc := ⟨.hbm, 354, rfl⟩
abbrev main_v166 : Ref sig .tc := ⟨.hbm, 355, rfl⟩
abbrev main_v167 : Ref sig .tc := ⟨.hbm, 356, rfl⟩
abbrev main_c_40 : Ref sig .tc := ⟨.hbm, 357, rfl⟩
abbrev main_v168 : Ref sig .tc := ⟨.hbm, 358, rfl⟩
abbrev main_v169 : Ref sig .tc := ⟨.hbm, 359, rfl⟩
abbrev main_v170 : Ref sig .tc := ⟨.hbm, 360, rfl⟩
abbrev main_c_41 : Ref sig .tc := ⟨.hbm, 361, rfl⟩
abbrev main_v171 : Ref sig .tc := ⟨.hbm, 362, rfl⟩
abbrev main_v172 : Ref sig .tc := ⟨.hbm, 363, rfl⟩
abbrev main_c_42 : Ref sig .tc := ⟨.hbm, 364, rfl⟩
abbrev main_v173 : Ref sig .tc := ⟨.hbm, 365, rfl⟩
abbrev main_v174 : Ref sig .tc := ⟨.hbm, 366, rfl⟩
abbrev main_v175 : Ref sig .tc := ⟨.hbm, 367, rfl⟩
abbrev main_c_43 : Ref sig .tc := ⟨.hbm, 368, rfl⟩
abbrev main_v176 : Ref sig .tc := ⟨.hbm, 369, rfl⟩
abbrev main_v177 : Ref sig .tc := ⟨.hbm, 370, rfl⟩
abbrev main_c_44 : Ref sig .tc := ⟨.hbm, 371, rfl⟩
abbrev main_v178 : Ref sig .tc := ⟨.hbm, 372, rfl⟩
abbrev main_v179 : Ref sig .tc := ⟨.hbm, 373, rfl⟩
abbrev main_v180 : Ref sig .tc := ⟨.hbm, 374, rfl⟩
abbrev main_c_45 : Ref sig .tc := ⟨.hbm, 375, rfl⟩
abbrev main_v181 : Ref sig .tc := ⟨.hbm, 376, rfl⟩
abbrev main_v182 : Ref sig .tc := ⟨.hbm, 377, rfl⟩
abbrev main_v183 : Ref sig .tc := ⟨.hbm, 378, rfl⟩
abbrev main_v184 : Ref sig .tc := ⟨.hbm, 379, rfl⟩
abbrev main_v185 : Ref sig .tc := ⟨.hbm, 380, rfl⟩
abbrev main_v186 : Ref sig .tc := ⟨.hbm, 381, rfl⟩
abbrev main_c_46 : Ref sig .tc := ⟨.hbm, 382, rfl⟩
abbrev main_call10_v0 : Ref sig .tc := ⟨.hbm, 383, rfl⟩
abbrev main_v187 : Ref sig .tc := ⟨.hbm, 384, rfl⟩
abbrev main_v188 : Ref sig .tc := ⟨.hbm, 385, rfl⟩
abbrev main_v189 : Ref sig .tc := ⟨.hbm, 386, rfl⟩
abbrev main_v190 : Ref sig .tc := ⟨.hbm, 387, rfl⟩
abbrev main_c_47 : Ref sig .tc := ⟨.hbm, 388, rfl⟩
abbrev main_v191 : Ref sig .tc := ⟨.hbm, 389, rfl⟩
abbrev main_v192 : Ref sig .tc := ⟨.hbm, 390, rfl⟩
abbrev main_c_48 : Ref sig .tc := ⟨.hbm, 391, rfl⟩
abbrev main_c_49 : Ref sig .tc := ⟨.hbm, 392, rfl⟩
abbrev main_call11_v0 : Ref sig .tc := ⟨.hbm, 393, rfl⟩
abbrev main_call11_v1 : Ref sig .tc := ⟨.hbm, 394, rfl⟩
abbrev main_call11_v2 : Ref sig .tc := ⟨.hbm, 395, rfl⟩
abbrev main_call11_v3 : Ref sig .tc := ⟨.hbm, 396, rfl⟩
abbrev main_call11_v4 : Ref sig .tc := ⟨.hbm, 397, rfl⟩
abbrev main_v193 : Ref sig .tc := ⟨.hbm, 398, rfl⟩
abbrev main_c_50 : Ref sig .tc := ⟨.hbm, 399, rfl⟩
abbrev main_v194 : Ref sig .tc := ⟨.hbm, 400, rfl⟩
abbrev main_v195 : Ref sig .tc := ⟨.hbm, 401, rfl⟩
abbrev main_c_51 : Ref sig .tc := ⟨.hbm, 402, rfl⟩
abbrev main_v196 : Ref sig .tc := ⟨.hbm, 403, rfl⟩
abbrev main_v197 : Ref sig .tc := ⟨.hbm, 404, rfl⟩
abbrev main_c_52 : Ref sig .tc := ⟨.hbm, 405, rfl⟩
abbrev main_c_53 : Ref sig .tc := ⟨.hbm, 406, rfl⟩
abbrev main_call12_v0 : Ref sig .tc := ⟨.hbm, 407, rfl⟩
abbrev main_call12_v1 : Ref sig .tc := ⟨.hbm, 408, rfl⟩
abbrev main_call12_v2 : Ref sig .tc := ⟨.hbm, 409, rfl⟩
abbrev main_call12_v3 : Ref sig .tc := ⟨.hbm, 410, rfl⟩
abbrev main_call12_v4 : Ref sig .tc := ⟨.hbm, 411, rfl⟩
abbrev main_v198 : Ref sig .tc := ⟨.hbm, 412, rfl⟩
abbrev main_c_54 : Ref sig .tc := ⟨.hbm, 413, rfl⟩
abbrev main_v199 : Ref sig .tc := ⟨.hbm, 414, rfl⟩
abbrev main_v200 : Ref sig .tc := ⟨.hbm, 415, rfl⟩
abbrev main_v201 : Ref sig .tc := ⟨.hbm, 416, rfl⟩
abbrev main_v202 : Ref sig .tc := ⟨.hbm, 417, rfl⟩
abbrev main_v203 : Ref sig .tc := ⟨.hbm, 418, rfl⟩
abbrev main_c_55 : Ref sig .tc := ⟨.hbm, 419, rfl⟩
abbrev main_v204 : Ref sig .tc := ⟨.hbm, 420, rfl⟩
abbrev main_v205 : Ref sig .tc := ⟨.hbm, 421, rfl⟩
abbrev main_c_56 : Ref sig .tc := ⟨.hbm, 422, rfl⟩
abbrev main_c_57 : Ref sig .tc := ⟨.hbm, 423, rfl⟩
abbrev main_call13_v0 : Ref sig .tc := ⟨.hbm, 424, rfl⟩
abbrev main_call13_v1 : Ref sig .tc := ⟨.hbm, 425, rfl⟩
abbrev main_call13_v2 : Ref sig .tc := ⟨.hbm, 426, rfl⟩
abbrev main_call13_v3 : Ref sig .tc := ⟨.hbm, 427, rfl⟩
abbrev main_call13_v4 : Ref sig .tc := ⟨.hbm, 428, rfl⟩
abbrev main_v206 : Ref sig .tc := ⟨.hbm, 429, rfl⟩
abbrev main_v207 : Ref sig .tc := ⟨.hbm, 430, rfl⟩
abbrev main_v208 : Ref sig .tc := ⟨.hbm, 431, rfl⟩
abbrev main_v209 : Ref sig .tc := ⟨.hbm, 432, rfl⟩
abbrev main_v210 : Ref sig .tc := ⟨.hbm, 433, rfl⟩
abbrev main_v211 : Ref sig .tc := ⟨.hbm, 434, rfl⟩
abbrev main_v212 : Ref sig .tc := ⟨.hbm, 435, rfl⟩
abbrev main_v213 : Ref sig .tc := ⟨.hbm, 436, rfl⟩
abbrev main_call14_v0 : Ref sig .tc := ⟨.hbm, 437, rfl⟩
abbrev main_call14_v1_0 : Ref sig .tc := ⟨.hbm, 438, rfl⟩
abbrev main_v214 : Ref sig .tc := ⟨.hbm, 439, rfl⟩
abbrev main_c_58 : Ref sig .tc := ⟨.hbm, 440, rfl⟩
abbrev main_v215 : Ref sig .tc := ⟨.hbm, 441, rfl⟩
abbrev main_v216 : Ref sig .tc := ⟨.hbm, 442, rfl⟩
abbrev main_c_59 : Ref sig .tc := ⟨.hbm, 443, rfl⟩
abbrev main_v217 : Ref sig .tc := ⟨.hbm, 444, rfl⟩
abbrev main_v218 : Ref sig .tc := ⟨.hbm, 445, rfl⟩
abbrev main_v219 : Ref sig .tc := ⟨.hbm, 446, rfl⟩
abbrev main_v220 : Ref sig .tc := ⟨.hbm, 447, rfl⟩
abbrev main_v221 : Ref sig .tc := ⟨.hbm, 448, rfl⟩
abbrev main_c_60 : Ref sig .tc := ⟨.hbm, 449, rfl⟩
abbrev main_v222 : Ref sig .tc := ⟨.hbm, 450, rfl⟩
abbrev main_v223 : Ref sig .tc := ⟨.hbm, 451, rfl⟩
abbrev main_c_61 : Ref sig .tc := ⟨.hbm, 452, rfl⟩
abbrev main_v224 : Ref sig .tc := ⟨.hbm, 453, rfl⟩
abbrev main_v225 : Ref sig .tc := ⟨.hbm, 454, rfl⟩
abbrev main_v226 : Ref sig .tc := ⟨.hbm, 455, rfl⟩
abbrev main_v227 : Ref sig .tc := ⟨.hbm, 456, rfl⟩
abbrev main_v228 : Ref sig .tc := ⟨.hbm, 457, rfl⟩
abbrev main_c_62 : Ref sig .tc := ⟨.hbm, 458, rfl⟩
abbrev main_v229 : Ref sig .tc := ⟨.hbm, 459, rfl⟩
abbrev main_v230 : Ref sig .tc := ⟨.hbm, 460, rfl⟩
abbrev main_c_63 : Ref sig .tc := ⟨.hbm, 461, rfl⟩
abbrev main_v231 : Ref sig .tc := ⟨.hbm, 462, rfl⟩
abbrev main_v232 : Ref sig .tc := ⟨.hbm, 463, rfl⟩
abbrev main_v233 : Ref sig .tc := ⟨.hbm, 464, rfl⟩
abbrev main_v234 : Ref sig .tc := ⟨.hbm, 465, rfl⟩
abbrev main_v235 : Ref sig .tc := ⟨.hbm, 466, rfl⟩
abbrev main_c_64 : Ref sig .tc := ⟨.hbm, 467, rfl⟩
abbrev main_v236 : Ref sig .tc := ⟨.hbm, 468, rfl⟩
abbrev main_c_65 : Ref sig .tc := ⟨.hbm, 469, rfl⟩
abbrev main_v237 : Ref sig .tc := ⟨.hbm, 470, rfl⟩
abbrev main_v238 : Ref sig .tc := ⟨.hbm, 471, rfl⟩
abbrev main_c_66 : Ref sig .tc := ⟨.hbm, 472, rfl⟩
abbrev main_v239 : Ref sig .tc := ⟨.hbm, 473, rfl⟩
abbrev main_v240 : Ref sig .tc := ⟨.hbm, 474, rfl⟩
abbrev main_c_67 : Ref sig .tc := ⟨.hbm, 475, rfl⟩
abbrev main_v241 : Ref sig .tc := ⟨.hbm, 476, rfl⟩
abbrev main_v242 : Ref sig .tc := ⟨.hbm, 477, rfl⟩
abbrev main_v243 : Ref sig .tc := ⟨.hbm, 478, rfl⟩
abbrev main_v244 : Ref sig .tc := ⟨.hbm, 479, rfl⟩
abbrev main_v245 : Ref sig .tc := ⟨.hbm, 480, rfl⟩
abbrev main_call15_call0_c : Ref sig .tc := ⟨.hbm, 481, rfl⟩
abbrev main_call15_call0_v0 : Ref sig .tc := ⟨.hbm, 482, rfl⟩
abbrev main_v246 : Ref sig .tc := ⟨.hbm, 483, rfl⟩
abbrev main_v247 : Ref sig .tc := ⟨.hbm, 484, rfl⟩
abbrev main_c_68 : Ref sig .tc := ⟨.hbm, 485, rfl⟩
abbrev main_v248 : Ref sig .tc := ⟨.hbm, 486, rfl⟩
abbrev main_v249 : Ref sig .tc := ⟨.hbm, 487, rfl⟩
abbrev main_c_69 : Ref sig .tc := ⟨.hbm, 488, rfl⟩
abbrev main_call16_v0 : Ref sig .tc := ⟨.hbm, 489, rfl⟩
abbrev main_call16_v1 : Ref sig .tc := ⟨.hbm, 490, rfl⟩
abbrev main_v250 : Ref sig .tc := ⟨.hbm, 491, rfl⟩
abbrev main_c_70 : Ref sig .tc := ⟨.hbm, 492, rfl⟩
abbrev main_v251 : Ref sig .tc := ⟨.hbm, 493, rfl⟩
abbrev main_v252 : Ref sig .tc := ⟨.hbm, 494, rfl⟩
abbrev main_v253 : Ref sig .tc := ⟨.hbm, 495, rfl⟩
abbrev main_v254 : Ref sig .tc := ⟨.hbm, 496, rfl⟩
abbrev main_v255 : Ref sig .tc := ⟨.hbm, 497, rfl⟩
abbrev main_v256 : Ref sig .tc := ⟨.hbm, 498, rfl⟩
abbrev main_c_71 : Ref sig .tc := ⟨.hbm, 499, rfl⟩
abbrev main_v257 : Ref sig .tc := ⟨.hbm, 500, rfl⟩
abbrev main_v258 : Ref sig .tc := ⟨.hbm, 501, rfl⟩
abbrev main_c_72 : Ref sig .tc := ⟨.hbm, 502, rfl⟩
abbrev main_call17_v0 : Ref sig .tc := ⟨.hbm, 503, rfl⟩
abbrev main_call17_v1 : Ref sig .tc := ⟨.hbm, 504, rfl⟩
abbrev main_v259 : Ref sig .tc := ⟨.hbm, 505, rfl⟩

abbrev nD : Nat := 1
abbrev τ : Topo := Topo.v7x

variable {F : FTy → Type} [FloatOps F]
-- ==== Proof.KernelRuns.lean ====
/- What the runs of `Kernel`'s frame certificate share: the frame kit, the staging memrefs, the lists of buffers the host
   operations write. The text is that of the generated frame module of `KernelIdeal`, the same program read at the ideal
   instance, with this program's names. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`). -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v21, main_v22, main_v23, main_c_5, main_v24, main_v25, main_v26, main_c_6, main_v27, main_v28]
theorem hostOps1_writes : (hostOps1 : List (HloOp τ sig (Elt F))).Forall fun op => op.writes ⊆ (hostOps1_W.map (Proc.devRef (τ := τ) .tc)).toFinset :=
  StableHlo.forall_writes_sub_of_map rfl
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call3_v0, main_call3_v1, main_v29]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_c_7, main_v30, main_v31, main_c_8, main_v32, main_v33]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call4_v0, main_call4_call0_c, main_call4_call0_v0, main_v34]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_c_9, main_v35, main_c_10, main_v36, main_v37, main_c_11, main_v38, main_v39, main_v40, main_v41, main_c_12, main_v42, main_v43]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call5_call0_c, main_call5_call0_v0, main_v44]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_c_13, main_v45, main_v46]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_c_4, main_call6_v14, main_v47]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_c_14, main_v48]
theorem hostOps1_8_writes : (hostOps1_8 : List (HloOp τ sig (Elt F))).Forall fun op => op.writes ⊆ (hostOps1_8_W.map (Proc.devRef (τ := τ) .tc)).toFinset :=
  StableHlo.forall_writes_sub_of_map rfl
theorem hostOps1_9_fresh : (hostOps1_9 : List (HloOp τ sig (Elt F))).Forall fun op => op.fresh = ∅ := by
  simp only [List.Forall]; repeat' constructor
/-- The reference each operation of `hostOps1_9` writes, in order. -/
abbrev hostOps1_9_W : List (Ref sig .tc) := [main_call7_call0_c, main_call7_call0_v0, main_v49]
theorem hostOps1_9_writes : (hostOps1_9 : List (HloOp τ sig (Elt F))).Forall fun op => op.writes ⊆ (hostOps1_9_W.map (Proc.devRef (τ := τ) .tc)).toFinset :=
  StableHlo.forall_writes_sub_of_map rfl
theorem hostOps1_10_fresh : (hostOps1_10 : List (HloOp τ sig (Elt F))).Forall fun op => op.fresh = ∅ := by
  simp only [List.Forall]; repeat' constructor
/-- The reference each operation of `hostOps1_10` writes, in order. -/
abbrev hostOps1_10_W : List (Ref sig .tc) := [main_v50, main_c_15, main_v51]
theorem hostOps1_10_writes : (hostOps1_10 : List (HloOp τ sig (Elt F))).Forall fun op => op.writes ⊆ (hostOps1_10_W.map (Proc.devRef (τ := τ) .tc)).toFinset :=
  StableHlo.forall_writes_sub_of_map rfl
theorem hostOps1_11_fresh : (hostOps1_11 : List (HloOp τ sig (Elt F))).Forall fun op => op.fresh = ∅ := by
  simp only [List.Forall]; repeat' constructor
/-- The reference each operation of `hostOps1_11` writes, in order. -/
abbrev hostOps1_11_W : List (Ref sig .tc) := [main_call8_v0, main_call8_v1_0, main_v52]
theorem hostOps1_11_writes : (hostOps1_11 : List (HloOp τ sig (Elt F))).Forall fun op => op.writes ⊆ (hostOps1_11_W.map (Proc.devRef (τ := τ) .tc)).toFinset :=
  StableHlo.forall_writes_sub_of_map rfl
theorem hostOps1_12_fresh : (hostOps1_12 : List (HloOp τ sig (Elt F))).Forall fun op => op.fresh = ∅ := by
  simp only [List.Forall]; repeat' constructor
/-- The reference each operation of `hostOps1_12` writes, in order. -/
abbrev hostOps1_12_W : List (Ref sig .tc) := [main_c_16, main_v53, main_v54, main_c_17, main_v55, main_v56, main_v57, main_v58, main_v59, main_c_18, main_v60, main_v61, main_c_19, main_v62, main_v63, main_v64, main_v65, main_v66, main_c_20, main_v67, main_v68, main_c_21, main_v69, main_v70, main_v71, main_v72, main_v73, main_c_22, main_v74, main_c_23, main_v75, main_v76, main_v77, main_c_24, main_v78, main_v79, main_c_25, main_v80, main_v81, main_v82, main_v83, main_v84, main_c_26, main_v85, main_v86, main_c_27, main_v87, main_v88, main_v89, main_v90, main_v91]
theorem hostOps1_12_writes : (hostOps1_12 : List (HloOp τ sig (Elt F))).Forall fun op => op.writes ⊆ (hostOps1_12_W.map (Proc.devRef (τ := τ) .tc)).toFinset :=
  StableHlo.forall_writes_sub_of_map rfl
theorem hostOps1_13_fresh : (hostOps1_13 : List (HloOp τ sig (Elt F))).Forall fun op => op.fresh = ∅ := by
  simp only [List.Forall]; repeat' constructor
/-- The reference each operation of `hostOps1_13` writes, in order. -/
abbrev hostOps1_13_W : List (Ref sig .tc) := [main_call9_call0_c, main_call9_call0_v0, main_v92]
theorem hostOps1_13_writes : (hostOps1_13 : List (HloOp τ sig (Elt F))).Forall fun op => op.writes ⊆ (hostOps1_13_W.map (Proc.devRef (τ := τ) .tc)).toFinset :=
  StableHlo.forall_writes_sub_of_map rfl
theorem hostOps1_14_fresh : (hostOps1_14 : List (HloOp τ sig (Elt F))).Forall fun op => op.fresh = ∅ := by
  simp only [List.Forall]; repeat' constructor
/-- The reference each operation of `hostOps1_14` writes, in order. -/
abbrev hostOps1_14_W : List (Ref sig .tc) := [main_v93, main_c_28, main_v94, main_v95, main_c_29]
theorem hostOps1_14_writes : (hostOps1_14 : List (HloOp τ sig (Elt F))).Forall fun op => op.writes ⊆ (hostOps1_14_W.map (Proc.devRef (τ := τ) .tc)).toFinset :=
  StableHlo.forall_writes_sub_of_map rfl
theorem hostOps1_15_fresh : (hostOps1_15 : List (HloOp τ sig (Elt F))).Forall fun op => op.fresh = ∅ := by
  simp only [List.Forall]; repeat' constructor
/-- The reference each operation of `hostOps1_15` writes, in order. -/
abbrev hostOps1_15_W : List (Ref sig .tc) := [main_call10_v0, main_call10_v1, main_v96]
theorem hostOps1_15_writes : (hostOps1_15 : List (HloOp τ sig (Elt F))).Forall fun op => op.writes ⊆ (hostOps1_15_W.map (Proc.devRef (τ := τ) .tc)).toFinset :=
  StableHlo.forall_writes_sub_of_map rfl
theorem hostOps1_16_fresh : (hostOps1_16 : List (HloOp τ sig (Elt F))).Forall fun op => op.fresh = ∅ := by
  simp only [List.Forall]; repeat' constructor
/-- The reference each operation of `hostOps1_16` writes, in order. -/
abbrev hostOps1_16_W : List (Ref sig .tc) := [main_c_30, main_v97, main_v98, main_v99, main_v100, main_v101, main_v102, main_c_31, main_v103]
theorem hostOps1_16_writes : (hostOps1_16 : List (HloOp τ sig (Elt F))).Forall fun op => op.writes ⊆ (hostOps1_16_W.map (Proc.devRef (τ := τ) .tc)).toFinset :=
  StableHlo.forall_writes_sub_of_map rfl

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16].map StableHlo.seq)) :=
  Pipeline.hmain_around cfgs 0 defs₀ 𝒱₀ m main [hostOps0, hostOps0_1, hostOps0_2, hostOps0_3, hostOps0_4, hostOps0_5, hostOps0_6] [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
/-- They allocate nothing. -/
theorem sfx_fresh : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
/-- And write no array of the pipeline: every operation's writes lie within its line's list (`hostOps1_W` to `hostOps1_16_W`), and no
    window's array is in such a list (decided). -/
theorem sfx_keeps : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl
  · intro w hb
    obtain ⟨y, hy, he⟩ := List.mem_map.mp (List.mem_toFinset.mp ((List.forall_iff_forall_mem.mp hostOps1_writes) op hop hb))
    exact (by decide +kernel : ∀ w, Pipeline.arrRef spec0 w ∉ hostOps1_W) w (Proc.devRef_injective _ he ▸ hy)
  · intro w hb
    obtain ⟨y, hy, he⟩ := List.mem_map.mp (List.mem_toFinset.mp ((List.forall_iff_forall_mem.mp hostOps1_1_writes) op hop hb))
    exact (by decide +kernel : ∀ w, Pipeline.arrRef spec0 w ∉ hostOps1_1_W) w (Proc.devRef_injective _ he ▸ hy)
  · intro w hb
    obtain ⟨y, hy, he⟩ := List.mem_map.mp (List.mem_toFinset.mp ((List.forall_iff_forall_mem.mp hostOps1_2_writes) op hop hb))
    exact (by decide +kernel : ∀ w, Pipeline.arrRef spec0 w ∉ hostOps1_2_W) w (Proc.devRef_injective _ he ▸ hy)
  · intro w hb
    obtain ⟨y, hy, he⟩ := List.mem_map.mp (List.mem_toFinset.mp ((List.forall_iff_forall_mem.mp hostOps1_3_writes) op hop hb))
    exact (by decide +kernel : ∀ w, Pipeline.arrRef spec0 w ∉ hostOps1_3_W) w (Proc.devRef_injective _ he ▸ hy)
  · intro w hb
    obtain ⟨y, hy, he⟩ := List.mem_map.mp (List.mem_toFinset.mp ((List.forall_iff_forall_mem.mp hostOps1_4_writes) op hop hb))
    exact (by decide +kernel : ∀ w, Pipeline.arrRef spec0 w ∉ hostOps1_4_W) w (Proc.devRef_injective _ he ▸ hy)
  · intro w hb
    obtain ⟨y, hy, he⟩ := List.mem_map.mp (List.mem_toFinset.mp ((List.forall_iff_forall_mem.mp hostOps1_5_writes) op hop hb))
    exact (by decide +kernel : ∀ w, Pipeline.arrRef spec0 w ∉ hostOps1_5_W) w (Proc.devRef_injective _ he ▸ hy)
  · intro w hb
    obtain ⟨y, hy, he⟩ := List.mem_map.mp (List.mem_toFinset.mp ((List.forall_iff_forall_mem.mp hostOps1_6_writes) op hop hb))
    exact (by decide +kernel : ∀ w, Pipeline.arrRef spec0 w ∉ hostOps1_6_W) w (Proc.devRef_injective _ he ▸ hy)
  · intro w hb
    obtain ⟨y, hy, he⟩ := List.mem_map.mp (List.mem_toFinset.mp ((List.forall_iff_forall_mem.mp hostOps1_7_writes) op hop hb))
    exact (by decide +kernel : ∀ w, Pipeline.arrRef spec0 w ∉ hostOps1_7_W) w (Proc.devRef_injective _ he ▸ hy)
  · intro w hb
    obtain ⟨y, hy, he⟩ := List.mem_map.mp (List.mem_toFinset.mp ((List.forall_iff_forall_mem.mp hostOps1_8_writes) op hop hb))
    exact (by decide +kernel : ∀ w, Pipeline.arrRef spec0 w ∉ hostOps1_8_W) w (Proc.devRef_injective _ he ▸ hy)
  · intro w hb
    obtain ⟨y, hy, he⟩ := List.mem_map.mp (List.mem_toFinset.mp ((List.forall_iff_forall_mem.mp hostOps1_9_writes) op hop hb))
    exact (by decide +kernel : ∀ w, Pipeline.arrRef spec0 w ∉ hostOps1_9_W) w (Proc.devRef_injective _ he ▸ hy)
  · intro w hb
    obtain ⟨y, hy, he⟩ := List.mem_map.mp (List.mem_toFinset.mp ((List.forall_iff_forall_mem.mp hostOps1_10_writes) op hop hb))
    exact (by decide +kernel : ∀ w, Pipeline.arrRef spec0 w ∉ hostOps1_10_W) w (Proc.devRef_injective _ he ▸ hy)
  · intro w hb
    obtain ⟨y, hy, he⟩ := List.mem_map.mp (List.mem_toFinset.mp ((List.forall_iff_forall_mem.mp hostOps1_11_writes) op hop hb))
    exact (by decide +kernel : ∀ w, Pipeline.arrRef spec0 w ∉ hostOps1_11_W) w (Proc.devRef_injective _ he ▸ hy)
  · intro w hb
    obtain ⟨y, hy, he⟩ := List.mem_map.mp (List.mem_toFinset.mp ((List.forall_iff_forall_mem.mp hostOps1_12_writes) op hop hb))
    exact (by decide +kernel : ∀ w, Pipeline.arrRef spec0 w ∉ hostOps1_12_W) w (Proc.devRef_injective _ he ▸ hy)
  · intro w hb
    obtain ⟨y, hy, he⟩ := List.mem_map.mp (List.mem_toFinset.mp ((List.forall_iff_forall_mem.mp hostOps1_13_writes) op hop hb))
    exact (by decide +kernel : ∀ w, Pipeline.arrRef spec0 w ∉ hostOps1_13_W) w (Proc.devRef_injective _ he ▸ hy)
  · intro w hb
    obtain ⟨y, hy, he⟩ := List.mem_map.mp (List.mem_toFinset.mp ((List.forall_iff_forall_mem.mp hostOps1_14_writes) op hop hb))
    exact (by decide +kernel : ∀ w, Pipeline.arrRef spec0 w ∉ hostOps1_14_W) w (Proc.devRef_injective _ he ▸ hy)
  · intro w hb
    obtain ⟨y, hy, he⟩ := List.mem_map.mp (List.mem_toFinset.mp ((List.forall_iff_forall_mem.mp hostOps1_15_writes) op hop hb))
    exact (by decide +kernel : ∀ w, Pipeline.arrRef spec0 w ∉ hostOps1_15_W) w (Proc.devRef_injective _ he ▸ hy)
  · intro w hb
    obtain ⟨y, hy, he⟩ := List.mem_map.mp (List.mem_toFinset.mp ((List.forall_iff_forall_mem.mp hostOps1_16_writes) op hop hb))
    exact (by decide +kernel : ∀ w, Pipeline.arrRef spec0 w ∉ hostOps1_16_W) w (Proc.devRef_injective _ he ▸ hy)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg1` (it is in no line's list of written references, `hostOps1_W` to `hostOps1_16_W`): it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_arg1 = m ((c : Thread nD τ).loc main_arg1) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_arg1) hostOps1_16 _ hostOps1_16_writes (by decide +kernel),
    StableHlo.after_of_writes_sub (r := main_arg1) hostOps1_15 _ hostOps1_15_writes (by decide +kernel),
    StableHlo.after_of_writes_sub (r := main_arg1) hostOps1_14 _ hostOps1_14_writes (by decide +kernel),
    StableHlo.after_of_writes_sub (r := main_arg1) hostOps1_13 _ hostOps1_13_writes (by decide +kernel),
    StableHlo.after_of_writes_sub (r := main_arg1) hostOps1_12 _ hostOps1_12_writes (by decide +kernel),
    StableHlo.after_of_writes_sub (r := main_arg1) hostOps1_11 _ hostOps1_11_writes (by decide +kernel),
    StableHlo.after_of_writes_sub (r := main_arg1) hostOps1_10 _ hostOps1_10_writes (by decide +kernel),
    StableHlo.after_of_writes_sub (r := main_arg1) hostOps1_9 _ hostOps1_9_writes (by decide +kernel),
    StableHlo.after_of_writes_sub (r := main_arg1) hostOps1_8 _ hostOps1_8_writes (by decide +kernel),
    StableHlo.after_of_writes_sub (r := main_arg1) hostOps1_7 _ hostOps1_7_writes (by decide +kernel),
    StableHlo.after_of_writes_sub (r := main_arg1) hostOps1_6 _ hostOps1_6_writes (by decide +kernel),
    StableHlo.after_of_writes_sub (r := main_arg1) hostOps1_5 _ hostOps1_5_writes (by decide +kernel),
    StableHlo.after_of_writes_sub (r := main_arg1) hostOps1_4 _ hostOps1_4_writes (by decide +kernel),
    StableHlo.after_of_writes_sub (r := main_arg1) hostOps1_3 _ hostOps1_3_writes (by decide +kernel),
    StableHlo.after_of_writes_sub (r := main_arg1) hostOps1_2 _ hostOps1_2_writes (by decide +kernel),
    StableHlo.after_of_writes_sub (r := main_arg1) hostOps1_1 _ hostOps1_1_writes (by decide +kernel),
    StableHlo.after_of_writes_sub (r := main_arg1) hostOps1 _ hostOps1_writes (by decide +kernel),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 1).trans (((dats 0 c).arrAt_in 1 rfl _).trans ((hA c 1).trans (V_main_arg0 m c))),
      (((h c).2 main_arg1 (Pipeline.mem_restRefs_of main_arg1 (by decide) (by decide))).trans (W_main_arg1 m dats c))⟩) h

/-! ## The kernel body on any staging memrefs: a subtype the run finds -/

/-- One staging buffer of output window 3, through which its contents are stated (`View.read_writes_of_cover`: the
    choice does not matter). -/
abbrev VO0_3 : View sig .tc .vmem S1000x64 .i32 := (Memref.whole cc0_stg3_0 : Memref sig .tc .vmem S1000x64 .i32).view
/-- One staging buffer of output window 4, through which its contents are stated (`View.read_writes_of_cover`: the
    choice does not matter). -/
abbrev VO0_4 : View sig .tc .vmem S1000x1 .i32 := (Memref.whole cc0_stg4_0 : Memref sig .tc .vmem S1000x1 .i32).view
/-- One staging buffer of output window 5, through which its contents are stated (`View.read_writes_of_cover`: the
    choice does not matter). -/
abbrev VO0_5 : View sig .tc .vmem S1000x1 .i32 := (Memref.whole cc0_stg5_0 : Memref sig .tc .vmem S1000x1 .i32).view
/-- Each window's current staging memref at point `t`, spelled as the pipeline passes it (`bodyAt0`), and its wholeness. -/
abbrev ms0_0 (t : Fin cfg0.N) : Memref sig .tc .smem S4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x64 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1000x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1000x1 .i32 := win0_5.stage (cfg0.slots t 5)
abbrev hs0_5 (t : Fin cfg0.N) : (ms0_5 t).IsWhole := hstage0_5 ((cfg0.slots t 5).cast nbuf0_5)

end Cert.Kernel.Gen

end
-- ==== Proof.KernelRunA.lean ====
/- The run of `Kernel`'s body on whole staging memrefs. The text is that of the generated module of `KernelIdeal`, the same
   program read at the ideal instance, with this program's names. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S4 .f32) (harg1 : arg1.IsWhole) (arg2 : Memref sig .tc .vmem S1000x3 .f32) (harg2 : arg2.IsWhole) (arg3 : Memref sig .tc .vmem S1000x1 .f32) (harg3 : arg3.IsWhole) (arg4 : Memref sig .tc .vmem S1000x64 .i32) (harg4 : arg4.IsWhole) (arg5 : Memref sig .tc .vmem S1000x1 .i32) (harg5 : arg5.IsWhole) (arg6 : Memref sig .tc .vmem S1000x1 .i32) (harg6 : arg6.IsWhole)
    (x0 : Vec F S4 .f32) (x1 : Vec F S1000x3 .f32) (x2 : Vec F S1000x1 .f32) :
    Σ' (L3 : List (View.Piece (Elt F) S1000x64 .i32)), Σ' (L4 : List (View.Piece (Elt F) S1000x1 .i32)), { L5 : List (View.Piece (Elt F) S1000x1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0__enum_body i arg1 harg1 arg2 harg2 arg3 harg3 arg4 harg4 arg5 harg5 arg6 harg6) K } := by
  refine ⟨?_, ?_, ?_, fun E K => ?run⟩
  case run =>
    simp only [cc0__enum_body_eq_skeleton]; unfold cc0__enum_body_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Gen

end
-- ==== Proof.KernelFrame.lean ====
/- The frame of `Kernel`: it runs, its arguments end unchanged, every semaphore reads zero. The text is that of the
   generated module of `KernelIdeal`, the same program read at the ideal instance, with this program's names. -/
module

public import proofs.«01_k».proof.Proof.KernelRunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 3 tile its block (1 store of `S1000x64`, checked by the kernel's evaluation: Lib/Ring.lean `Piece.tiledL`, linear in the pieces, through a loop's `@[irreducible]` trip theorem too), so they cover it. -/
theorem cover0_A_3 (c : Dev nD) (i : grid0.Coords) (arg1 : Memref sig .tc .smem S4 .f32) (harg1 : arg1.IsWhole) (arg2 : Memref sig .tc .vmem S1000x3 .f32) (harg2 : arg2.IsWhole) (arg3 : Memref sig .tc .vmem S1000x1 .f32) (harg3 : arg3.IsWhole) (arg4 : Memref sig .tc .vmem S1000x64 .i32) (harg4 : arg4.IsWhole) (arg5 : Memref sig .tc .vmem S1000x1 .i32) (harg5 : arg5.IsWhole) (arg6 : Memref sig .tc .vmem S1000x1 .i32) (harg6 : arg6.IsWhole)
    (x0 : Vec F S4 .f32) (x1 : Vec F S1000x3 .f32) (x2 : Vec F S1000x1 .f32) (y : S1000x64.Idx) :
    ∃ pc ∈ (kernelRun0_A c i arg1 harg1 arg2 harg2 arg3 harg3 arg4 harg4 arg5 harg5 arg6 harg6 x0 x1 x2).1, y ∈ pc.1.set :=
  View.cover_of_tiledL (kernelRun0_A c i arg1 harg1 arg2 harg2 arg3 harg3 arg4 harg4 arg5 harg5 arg6 harg6 x0 x1 x2).1 S1000x64.size (by sl_kernel_rfl) y

/-- What the run leaves in output 3's staging buffer: its pieces read back over junk. -/
def out0_A_3 (c : Dev nD) (i : grid0.Coords) (arg1 : Memref sig .tc .smem S4 .f32) (harg1 : arg1.IsWhole) (arg2 : Memref sig .tc .vmem S1000x3 .f32) (harg2 : arg2.IsWhole) (arg3 : Memref sig .tc .vmem S1000x1 .f32) (harg3 : arg3.IsWhole) (arg4 : Memref sig .tc .vmem S1000x64 .i32) (harg4 : arg4.IsWhole) (arg5 : Memref sig .tc .vmem S1000x1 .i32) (harg5 : arg5.IsWhole) (arg6 : Memref sig .tc .vmem S1000x1 .i32) (harg6 : arg6.IsWhole)
    (x0 : Vec F S4 .f32) (x1 : Vec F S1000x3 .f32) (x2 : Vec F S1000x1 .f32) : Vec F S1000x64 .i32 :=
  VO0_3.read (Elt F) (VO0_3.writes (Elt F) VO0_3.junk (kernelRun0_A c i arg1 harg1 arg2 harg2 arg3 harg3 arg4 harg4 arg5 harg5 arg6 harg6 x0 x1 x2).1)

/-- The run's pieces for output 4 tile its block (1 store of `S1000x1`, checked by the kernel's evaluation: Lib/Ring.lean `Piece.tiledL`, linear in the pieces, through a loop's `@[irreducible]` trip theorem too), so they cover it. -/
theorem cover0_A_4 (c : Dev nD) (i : grid0.Coords) (arg1 : Memref sig .tc .smem S4 .f32) (harg1 : arg1.IsWhole) (arg2 : Memref sig .tc .vmem S1000x3 .f32) (harg2 : arg2.IsWhole) (arg3 : Memref sig .tc .vmem S1000x1 .f32) (harg3 : arg3.IsWhole) (arg4 : Memref sig .tc .vmem S1000x64 .i32) (harg4 : arg4.IsWhole) (arg5 : Memref sig .tc .vmem S1000x1 .i32) (harg5 : arg5.IsWhole) (arg6 : Memref sig .tc .vmem S1000x1 .i32) (harg6 : arg6.IsWhole)
    (x0 : Vec F S4 .f32) (x1 : Vec F S1000x3 .f32) (x2 : Vec F S1000x1 .f32) (y : S1000x1.Idx) :
    ∃ pc ∈ (kernelRun0_A c i arg1 harg1 arg2 harg2 arg3 harg3 arg4 harg4 arg5 harg5 arg6 harg6 x0 x1 x2).2.1, y ∈ pc.1.set :=
  View.cover_of_tiledL (kernelRun0_A c i arg1 harg1 arg2 harg2 arg3 harg3 arg4 harg4 arg5 harg5 arg6 harg6 x0 x1 x2).2.1 S1000x1.size (by sl_kernel_rfl) y

/-- What the run leaves in output 4's staging buffer: its pieces read back over junk. -/
def out0_A_4 (c : Dev nD) (i : grid0.Coords) (arg1 : Memref sig .tc .smem S4 .f32) (harg1 : arg1.IsWhole) (arg2 : Memref sig .tc .vmem S1000x3 .f32) (harg2 : arg2.IsWhole) (arg3 : Memref sig .tc .vmem S1000x1 .f32) (harg3 : arg3.IsWhole) (arg4 : Memref sig .tc .vmem S1000x64 .i32) (harg4 : arg4.IsWhole) (arg5 : Memref sig .tc .vmem S1000x1 .i32) (harg5 : arg5.IsWhole) (arg6 : Memref sig .tc .vmem S1000x1 .i32) (harg6 : arg6.IsWhole)
    (x0 : Vec F S4 .f32) (x1 : Vec F S1000x3 .f32) (x2 : Vec F S1000x1 .f32) : Vec F S1000x1 .i32 :=
  VO0_4.read (Elt F) (VO0_4.writes (Elt F) VO0_4.junk (kernelRun0_A c i arg1 harg1 arg2 harg2 arg3 harg3 arg4 harg4 arg5 harg5 arg6 harg6 x0 x1 x2).2.1)

/-- The run's pieces for output 5 tile its block (1 store of `S1000x1`, checked by the kernel's evaluation: Lib/Ring.lean `Piece.tiledL`, linear in the pieces, through a loop's `@[irreducible]` trip theorem too), so they cover it. -/
theorem cover0_A_5 (c : Dev nD) (i : grid0.Coords) (arg1 : Memref sig .tc .smem S4 .f32) (harg1 : arg1.IsWhole) (arg2 : Memref sig .tc .vmem S1000x3 .f32) (harg2 : arg2.IsWhole) (arg3 : Memref sig .tc .vmem S1000x1 .f32) (harg3 : arg3.IsWhole) (arg4 : Memref sig .tc .vmem S1000x64 .i32) (harg4 : arg4.IsWhole) (arg5 : Memref sig .tc .vmem S1000x1 .i32) (harg5 : arg5.IsWhole) (arg6 : Memref sig .tc .vmem S1000x1 .i32) (harg6 : arg6.IsWhole)
    (x0 : Vec F S4 .f32) (x1 : Vec F S1000x3 .f32) (x2 : Vec F S1000x1 .f32) (y : S1000x1.Idx) :
    ∃ pc ∈ (kernelRun0_A c i arg1 harg1 arg2 harg2 arg3 harg3 arg4 harg4 arg5 harg5 arg6 harg6 x0 x1 x2).2.2.1, y ∈ pc.1.set :=
  View.cover_of_tiledL (kernelRun0_A c i arg1 harg1 arg2 harg2 arg3 harg3 arg4 harg4 arg5 harg5 arg6 harg6 x0 x1 x2).2.2.1 S1000x1.size (by sl_kernel_rfl) y

/-- What the run leaves in output 5's staging buffer: its pieces read back over junk. -/
def out0_A_5 (c : Dev nD) (i : grid0.Coords) (arg1 : Memref sig .tc .smem S4 .f32) (harg1 : arg1.IsWhole) (arg2 : Memref sig .tc .vmem S1000x3 .f32) (harg2 : arg2.IsWhole) (arg3 : Memref sig .tc .vmem S1000x1 .f32) (harg3 : arg3.IsWhole) (arg4 : Memref sig .tc .vmem S1000x64 .i32) (harg4 : arg4.IsWhole) (arg5 : Memref sig .tc .vmem S1000x1 .i32) (harg5 : arg5.IsWhole) (arg6 : Memref sig .tc .vmem S1000x1 .i32) (harg6 : arg6.IsWhole)
    (x0 : Vec F S4 .f32) (x1 : Vec F S1000x3 .f32) (x2 : Vec F S1000x1 .f32) : Vec F S1000x1 .i32 :=
  VO0_5.read (Elt F) (VO0_5.writes (Elt F) VO0_5.junk (kernelRun0_A c i arg1 harg1 arg2 harg2 arg3 harg3 arg4 harg4 arg5 harg5 arg6 harg6 x0 x1 x2).2.2.1)

/-! ## What the outputs hold after each point -/

/-- What the outputs' staging buffers hold after the body at point `t` (as a tuple, in window order): the run's contents at
    the point's memrefs and input blocks. -/
def outsAt0 (c : Dev nD) (t : Fin cfg0.N) : Vec F S1000x64 .i32 × Vec F S1000x1 .i32 × Vec F S1000x1 .i32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m c 0 t) (iblk m c 1 t) (iblk m c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.Words.lean ====
/-
  The kernel's arithmetic on one word at a time, with no program in sight: the cell of a coordinate, the test for a
  sphere that covers too many cells, and the Morton word of a cell.
-/
module

public import Idealize.ShloMosaic.PureOps.Ideal
public import Idealize.ShloMosaic.Lib.Claim
public import Idealize.ShloMosaic.Lib.Pipeline.Value
public import Idealize.ShloMosaic.Lib.ValueIdxCore

@[expose] public section

namespace Cert.Words

open Idealize.ShloMosaic

/-- A word clipped, signed, to `0 … hi`. -/
def clip (hi x : BitVec 32) : BitVec 32 := IntOp.minsi hi (IntOp.maxsi 0#32 x)

/-- One step of spreading bits apart: a copy `k` places up, and a mask. -/
def step (k : Nat) (mask x : BitVec 32) : BitVec 32 := (x ||| x <<< k) &&& mask

/-- The ten bits of a clipped coordinate, three places apart. -/
def spread (x : BitVec 32) : BitVec 32 :=
  step 2 153391689#32 (step 4 51130563#32 (step 8 50393103#32 (step 16 50331903#32 x)))

/-- The Morton word of the cell at three coordinates, each clipped to the grid. -/
def morton (x y z : BitVec 32) : BitVec 32 :=
  (spread (clip 1023#32 x) <<< 2 ||| spread (clip 1023#32 y) <<< 1) ||| spread (clip 1023#32 z)

/-- One when the box of cells of extents `a`, `b`, `d` is too large: over 64 cells, or over four along an axis. -/
def big (a b d : BitVec 32) : BitVec 1 :=
  IntOp.ori (IntOp.ori (IntOp.ori (IntOp.cmpi .sgt (a * b * d) 64#32) (IntOp.cmpi .sgt a 4#32)) (IntOp.cmpi .sgt b 4#32))
    (IntOp.cmpi .sgt d 4#32)

/-- One when the slot `u`, `v`, `w` lies in the box of extents `a`, `b`, `d`, and the box is not too large. -/
def inBox (a b d u v w : BitVec 32) : BitVec 1 :=
  IntOp.andi (IntOp.andi (IntOp.andi (IntOp.cmpi .slt u a) (IntOp.cmpi .slt v b)) (IntOp.cmpi .slt w d)) (~~~(big a b d))

/-- The cell coordinate of a position `x`, from the corner `b` of the grid and the side `s` of a cell. -/
noncomputable def cell (x b s : Ideal .f32) : BitVec 32 :=
  clip 1023#32 (FloatOps.fptosi (F := Ideal) (φ := .f32) 32
    (FloatOps.floor (F := Ideal) (φ := .f32) (FloatOps.divf (F := Ideal) (φ := .f32) (FloatOps.subf (F := Ideal) (φ := .f32) x b) s)))

/-- The lowest cell coordinate of the sphere of centre `x` and radius `r` along an axis. -/
noncomputable def low (x r b s : Ideal .f32) : BitVec 32 := cell (FloatOps.subf (F := Ideal) (φ := .f32) x r) b s

/-- The highest one. -/
noncomputable def high (x r b s : Ideal .f32) : BitVec 32 := cell (FloatOps.addf (F := Ideal) (φ := .f32) x r) b s

/-- How many cells the sphere covers along an axis. -/
noncomputable def ext (x r b s : Ideal .f32) : BitVec 32 := high x r b s - low x r b s + 1#32

theorem shli_lt (u : ArithUnit) (x : BitVec 32) (k : Nat) (h : k < 32) :
    IntOp.shli u x (BitVec.ofNat 32 k) = x <<< k := by
  have e : (BitVec.ofNat 32 k).toNat = k := by rw [BitVec.toNat_ofNat]; exact Nat.mod_eq_of_lt (by omega)
  unfold IntOp.shli
  rw [if_pos (by rw [e]; exact h), BitVec.shiftLeft_eq', e]

theorem shrsi_lt (u : ArithUnit) (x : BitVec 32) (k : Nat) (h : k < 32) :
    IntOp.shrsi u x (BitVec.ofNat 32 k) = x.sshiftRight k := by
  have e : (BitVec.ofNat 32 k).toNat = k := by rw [BitVec.toNat_ofNat]; exact Nat.mod_eq_of_lt (by omega)
  unfold IntOp.shrsi
  rw [if_pos (by rw [e]; exact h), BitVec.sshiftRight_eq', e]

end Cert.Words
-- ==== Proof.Block.lean ====
/-
  What one grid step stores, entry by entry, from the three blocks it reads: the extents of each sphere's box, the
  number of cells, the index of a sphere that covers too many, and the Morton words of the 64 slots.
-/
module

public import proofs.«01_k».proof.Proof.Gen.KernelIdeal.Skeleton
public import proofs.«01_k».proof.Proof.Words
public import Idealize.ShloMosaic.Lib.Pipeline.Value

@[expose] public section

set_option maxRecDepth 16384

noncomputable section

namespace Cert.Block

open Cert.KernelIdeal Cert.KernelIdeal.Gen Cert.Words
open Idealize.ShloMosaic Idealize.ShloMosaic.ValueIdx

variable (b0 b1 b2 s : Elt Ideal .f32) (r x y z : Vec Ideal S1000x1 .f32)

theorem radius : k0_pay1 r = r := by
  unfold k0_pay1
  exact shapeCast_self _ _

theorem low0_at (i : S1000x1.Idx) : k0_pay2 b0 s r x i = low (x i) (r i) b0 s := by
  unfold k0_pay2; rw [radius]; rfl

theorem low1_at (i : S1000x1.Idx) : k0_pay5 b1 s r y i = low (y i) (r i) b1 s := by
  unfold k0_pay5; rw [radius]; rfl

theorem low2_at (i : S1000x1.Idx) : k0_pay7 b2 s (k0_pay1 r) z i = low (z i) (r i) b2 s := by
  unfold k0_pay7; rw [radius]; rfl

/-- The extents along the first axis. -/
def ext0 : IVec S1000x1 32 := k0_pay8 (k0_pay2 b0 s r x) (k0_pay3 b0 s r x)

/-- The extents along the second axis. -/
def ext1 : IVec S1000x1 32 := k0_pay9 s (k0_pay4 r y) (k0_pay5 b1 s r y) (k0_pay6 b1)

/-- The extents along the third axis. -/
def ext2 : IVec S1000x1 32 := k0_pay10 b2 s (k0_pay1 r) z

theorem ext0_at (i : S1000x1.Idx) : ext0 b0 s r x i = ext (x i) (r i) b0 s := by
  unfold ext0 k0_pay8 k0_pay3 k0_pay2; rw [radius]; rfl

theorem ext1_at (i : S1000x1.Idx) : ext1 b1 s r y i = ext (y i) (r i) b1 s := by
  unfold ext1 k0_pay9 k0_pay4 k0_pay5 k0_pay6; rw [radius]; rfl

theorem ext2_at (i : S1000x1.Idx) : ext2 b2 s r z i = ext (z i) (r i) b2 s := by
  unfold ext2 k0_pay10 k0_pay7; rw [radius]; rfl

/-- The product of the three extents. -/
def cells : IVec S1000x1 32 :=
  k0_pay11 b2 s (k0_pay1 r) (k0_pay2 b0 s r x) (k0_pay3 b0 s r x) (k0_pay4 r y) (k0_pay5 b1 s r y) (k0_pay6 b1) z

theorem cells_at (i : S1000x1.Idx) : cells b0 b1 b2 s r x y z i
    = ext (x i) (r i) b0 s * ext (y i) (r i) b1 s * ext (z i) (r i) b2 s := by
  rw [← ext0_at, ← ext1_at, ← ext2_at]; rfl

/-- Whether there are more than 64 of them. -/
def many : IVec S1000x1 1 :=
  k0_pay12 b2 s (k0_pay1 r) (k0_pay2 b0 s r x) (k0_pay3 b0 s r x) (k0_pay4 r y) (k0_pay5 b1 s r y) (k0_pay6 b1) z

/-- Whether the box is too long along the first axis. -/
def long : IVec S1000x1 1 := k0_pay13 (k0_pay2 b0 s r x) (k0_pay3 b0 s r x)

theorem many_at (i : S1000x1.Idx) : many b0 b1 b2 s r x y z i
    = IntOp.cmpi .sgt (ext (x i) (r i) b0 s * ext (y i) (r i) b1 s * ext (z i) (r i) b2 s) 64#32 := by
  rw [← cells_at]; rfl

theorem long_at (i : S1000x1.Idx) : long b0 s r x i = IntOp.cmpi .sgt (ext (x i) (r i) b0 s) 4#32 := by
  rw [← ext0_at]; rfl

/-- Whether the box of one sphere is too large. -/
def bigAt (i : S1000x1.Idx) : BitVec 1 := big (ext (x i) (r i) b0 s) (ext (y i) (r i) b1 s) (ext (z i) (r i) b2 s)

theorem over_at (i : S1000x1.Idx) :
    k0_pay14 (ext1 b1 s r y) (ext2 b2 s r z) (many b0 b1 b2 s r x y z) (long b0 s r x) i
      = bigAt b0 b1 b2 s r x y z i := by
  unfold bigAt big
  rw [← many_at, ← long_at, ← ext1_at, ← ext2_at]; rfl

/-- The stored numbers of cells. -/
def counts : IVec S1000x1 32 :=
  k0_pay15 (ext1 b1 s r y) (ext2 b2 s r z) (cells b0 b1 b2 s r x y z) (many b0 b1 b2 s r x y z) (long b0 s r x)

theorem counts_at (i : S1000x1.Idx) : counts b0 b1 b2 s r x y z i
    = Scalar.select (bigAt b0 b1 b2 s r x y z i) 0#32
        (ext (x i) (r i) b0 s * ext (y i) (r i) b1 s * ext (z i) (r i) b2 s) := by
  rw [← over_at, ← cells_at]; rfl

/-- The stored indices of the spheres that cover too many cells. -/
def overs (n : BitVec 32) : IVec S1000x1 32 :=
  k0_pay16 n (ext1 b1 s r y) (ext2 b2 s r z) (many b0 b1 b2 s r x y z) (long b0 s r x)

theorem overs_at (n : BitVec 32) (i : S1000x1.Idx) : overs b0 b1 b2 s r x y z n i
    = Scalar.select (bigAt b0 b1 b2 s r x y z i) (n * 1000#32 + BitVec.ofNat 32 (i 0).val) 4294967295#32 := by
  rw [← over_at, ← iota_single_apply .tc S1000x1 32 0 iota_S1000x1_d0_w32 i]; rfl

theorem slots4 : ∀ n : Fin 64, (BitVec.ofNat 32 n.val).sshiftRight 4 = BitVec.ofNat 32 (n.val / 16) := by decide
theorem slots2 : ∀ n : Fin 64, IntOp.andi ((BitVec.ofNat 32 n.val).sshiftRight 2) 3#32 = BitVec.ofNat 32 (n.val / 4 % 4) := by decide
theorem slots0 : ∀ n : Fin 64, IntOp.andi (BitVec.ofNat 32 n.val) 3#32 = BitVec.ofNat 32 (n.val % 4) := by decide

theorem slot0_at (j : S1000x64.Idx) : k0_pay17 j = BitVec.ofNat 32 ((j 1).val / 16) := by
  rw [← slots4 (j 1), ← shrsi_lt .vector _ 4 (by decide),
    ← iota_single_apply .tc S1000x64 32 1 iota_S1000x64_d1_w32 j]
  rfl

theorem slot1_at (j : S1000x64.Idx) : k0_pay18 j = BitVec.ofNat 32 ((j 1).val / 4 % 4) := by
  rw [← slots2 (j 1), ← shrsi_lt .vector _ 2 (by decide),
    ← iota_single_apply .tc S1000x64 32 1 iota_S1000x64_d1_w32 j]
  rfl

theorem slot2_at (j : S1000x64.Idx) : k0_pay19 j = BitVec.ofNat 32 ((j 1).val % 4) := by
  rw [← slots0 (j 1), ← iota_single_apply .tc S1000x64 32 1 iota_S1000x64_d1_w32 j]
  rfl

/-- The row of a block that a slot belongs to. -/
abbrev row (j : S1000x64.Idx) : S1000x1.Idx := ix2 (j 0) 0

/-- A column spread over the 64 slots. -/
theorem col_at {α : Type} (v : S1000x1.Idx → α) (j : S1000x64.Idx) :
    broadcastTo S1000x64 v broadcasts_S1000x1_S1000x64 j = v (row j) :=
  broadcastTo_apply v _ j (row j) fun a => by fin_cases a <;> rfl

theorem not_bit : ∀ p : BitVec 1, p ^^^ 1#1 = ~~~p := by decide

theorem valid_at (j : S1000x64.Idx) :
    k0_pay23 (ext0 b0 s r x) (ext1 b1 s r y) (ext2 b2 s r z) (many b0 b1 b2 s r x y z) (long b0 s r x) j
      = inBox (ext (x (row j)) (r (row j)) b0 s) (ext (y (row j)) (r (row j)) b1 s) (ext (z (row j)) (r (row j)) b2 s)
          (BitVec.ofNat 32 ((j 1).val / 16)) (BitVec.ofNat 32 ((j 1).val / 4 % 4)) (BitVec.ofNat 32 ((j 1).val % 4)) := by
  unfold inBox
  have h := over_at b0 b1 b2 s r x y z (row j)
  unfold bigAt at h
  rw [← h, ← ext0_at, ← ext1_at, ← ext2_at, ← slot0_at, ← slot1_at, ← slot2_at, ← not_bit,
    ← col_at (ext0 b0 s r x), ← col_at (ext1 b1 s r y), ← col_at (ext2 b2 s r z)]
  unfold k0_pay23
  refine congrArg (IntOp.andi _) ?_
  exact (col_at _ j).trans rfl

/-- The bits of one coordinate of every slot, spread apart. -/
theorem spread_at (g : IVec S1000x64 32) (j : S1000x64.Idx) : k0_pay24 g 0#32 j = spread (clip 1023#32 (g j)) := by
  unfold spread step
  rw [← shli_lt .vector _ 16 (by decide), ← shli_lt .vector _ 8 (by decide), ← shli_lt .vector _ 4 (by decide),
    ← shli_lt .vector _ 2 (by decide)]
  rfl

/-- The stored Morton words. -/
def words : IVec S1000x64 32 :=
  k0_pay26 (k0_pay22 (k0_pay7 b2 s (k0_pay1 r) z))
    (k0_pay23 (ext0 b0 s r x) (ext1 b1 s r y) (ext2 b2 s r z) (many b0 b1 b2 s r x y z) (long b0 s r x))
    (k0_pay24 (k0_pay20 (k0_pay2 b0 s r x)) 0#32) (k0_pay25 (k0_pay21 (k0_pay5 b1 s r y)))

theorem at0 (j : S1000x64.Idx) : k0_pay20 (k0_pay2 b0 s r x) j
    = low (x (row j)) (r (row j)) b0 s + BitVec.ofNat 32 ((j 1).val / 16) := by
  rw [← low0_at, ← slot0_at, ← col_at (k0_pay2 b0 s r x)]; rfl

theorem at1 (j : S1000x64.Idx) : k0_pay21 (k0_pay5 b1 s r y) j
    = low (y (row j)) (r (row j)) b1 s + BitVec.ofNat 32 ((j 1).val / 4 % 4) := by
  rw [← low1_at, ← slot1_at, ← col_at (k0_pay5 b1 s r y)]; rfl

theorem at2 (j : S1000x64.Idx) : k0_pay22 (k0_pay7 b2 s (k0_pay1 r) z) j
    = low (z (row j)) (r (row j)) b2 s + BitVec.ofNat 32 ((j 1).val % 4) := by
  rw [← low2_at, ← slot2_at, ← col_at (k0_pay7 b2 s (k0_pay1 r) z)]; rfl

/-- The three coordinates of a slot put together. -/
theorem join_at (v : IVec S1000x64 1) (g0 g1 g2 : IVec S1000x64 32) (j : S1000x64.Idx) :
    k0_pay26 g2 v (k0_pay24 g0 0#32) (k0_pay25 g1) j
      = Scalar.select (v j) (morton (g0 j) (g1 j) (g2 j)) 2147483647#32 := by
  unfold morton
  rw [← spread_at, ← spread_at g1, ← spread_at g2, ← shli_lt .vector _ 2 (by decide), ← shli_lt .vector _ 1 (by decide)]
  rfl

theorem words_at (j : S1000x64.Idx) : words b0 b1 b2 s r x y z j
    = Scalar.select
        (inBox (ext (x (row j)) (r (row j)) b0 s) (ext (y (row j)) (r (row j)) b1 s) (ext (z (row j)) (r (row j)) b2 s)
          (BitVec.ofNat 32 ((j 1).val / 16)) (BitVec.ofNat 32 ((j 1).val / 4 % 4)) (BitVec.ofNat 32 ((j 1).val % 4)))
        (morton (low (x (row j)) (r (row j)) b0 s + BitVec.ofNat 32 ((j 1).val / 16))
          (low (y (row j)) (r (row j)) b1 s + BitVec.ofNat 32 ((j 1).val / 4 % 4))
          (low (z (row j)) (r (row j)) b2 s + BitVec.ofNat 32 ((j 1).val % 4))) 2147483647#32 := by
  unfold words
  rw [join_at, valid_at, at0, at1, at2]

end Cert.Block

end
-- ==== Proof.RefRead.lean ====
/-
  The reference's stages at one index, in the words of `Words`: its cells, its counts, its Morton words and its level-one
  cell numbers.
-/
module

public import proofs.«01_k».proof.Proof.Words
public import proofs.«01_k».proof.Proof.Gen.ReferenceIdeal.Read
public import Idealize.ShloMosaic.PureOps.Reduce

@[expose] public section

set_option maxRecDepth 16384

noncomputable section

namespace Cert.RefRead

open Cert.ReferenceIdeal Cert.ReferenceIdeal.Gen Cert.ReferenceIdeal.Read Cert.Words
open Idealize.ShloMosaic Idealize.ShloMosaic.TcCoe Idealize.ShloMosaic.ValueIdx

variable (x0 : (⟨S200000x3, .f32⟩ : BufTy).Contents (Elt Ideal)) (x1 : (⟨S200000, .f32⟩ : BufTy).Contents (Elt Ideal))

/-- The lowest cell coordinate of sphere `i` along axis `k`. -/
def lo (i : Fin 200000) (k : Fin 3) : BitVec 32 :=
  low (x0 (ix2 i k)) (x1 (ix1 i)) (val_main_v11 x0 x1 (ix1 k)) (val_main_v16 x0 x1 ix0)

/-- The number of cells of sphere `i` along axis `k`. -/
def ex (i : Fin 200000) (k : Fin 3) : BitVec 32 :=
  ext (x0 (ix2 i k)) (x1 (ix1 i)) (val_main_v11 x0 x1 (ix1 k)) (val_main_v16 x0 x1 ix0)

/-- Whether sphere `i` covers too many cells. -/
def over (i : Fin 200000) : BitVec 1 := big (ex x0 x1 i 0) (ex x0 x1 i 1) (ex x0 x1 i 2)

theorem v24_at (i : Fin 200000) (k : Fin 3) : val_main_v24 x0 x1 (ix2 i k) = lo x0 x1 i k := by
  have e1 : idx_main_v0 (idx_main_v1 (ix2 i k)) = ix1 i := funext fun d => by fin_cases d <;> rfl
  have e2 : idx_main_v17 (idx_main_v18 (ix2 i k)) = ix1 k := funext fun d => by fin_cases d <;> rfl
  have e3 : idx_main_v20 (ix2 i k) = ix0 := funext fun d => d.elim0
  rw [val_main_v24_apply]
  simp (implicitDefEqProofs := false) only [
    val_main_call3_v4_apply, val_main_call3_v3_apply, val_main_c_5_apply, val_main_call3_v2_apply,
    val_main_call3_v1_apply, val_main_call3_v0_apply, val_main_c_apply, val_main_v23_apply, val_main_v22_apply,
    val_main_v21_apply, val_main_v20_apply, val_main_v19_apply, val_main_v18_apply, val_main_v17_apply,
    val_main_v2_apply, val_main_v1_apply, val_main_v0_apply]
  rw [e1, e2, e3]; unfold lo
  generalize val_main_v11 x0 x1 (ix1 k) = b
  generalize val_main_v16 x0 x1 ix0 = s
  rfl

theorem v32_at (i : Fin 200000) (k : Fin 3) : val_main_v32 x0 x1 (ix2 i k) = high (x0 (ix2 i k)) (x1 (ix1 i)) (val_main_v11 x0 x1 (ix1 k)) (val_main_v16 x0 x1 ix0) := by
  have e1 : idx_main_v3 (idx_main_v4 (ix2 i k)) = ix1 i := funext fun d => by fin_cases d <;> rfl
  have e2 : idx_main_v25 (idx_main_v26 (ix2 i k)) = ix1 k := funext fun d => by fin_cases d <;> rfl
  have e3 : idx_main_v28 (ix2 i k) = ix0 := funext fun d => d.elim0
  rw [val_main_v32_apply]
  simp (implicitDefEqProofs := false) only [
    val_main_call4_v4_apply, val_main_call4_v3_apply, val_main_c_7_apply, val_main_call4_v2_apply,
    val_main_call4_v1_apply, val_main_call4_v0_apply, val_main_c_6_apply, val_main_v31_apply,
    val_main_v30_apply, val_main_v29_apply, val_main_v28_apply, val_main_v27_apply, val_main_v26_apply,
    val_main_v25_apply, val_main_v5_apply, val_main_v4_apply, val_main_v3_apply]
  rw [e1, e2, e3]
  generalize val_main_v11 x0 x1 (ix1 k) = b
  generalize val_main_v16 x0 x1 ix0 = s
  rfl

theorem v35_at (i : Fin 200000) (k : Fin 3) : val_main_v35 x0 x1 (ix2 i k) = ex x0 x1 i k := by
  simp (implicitDefEqProofs := false) only [
    val_main_v35_apply, val_main_v33_apply, val_main_v34_apply, val_main_c_8_apply, v24_at, v32_at]
  unfold ex ext lo
  rfl

theorem v37_at (i : Fin 200000) : val_main_v37 x0 x1 (ix1 i) = ex x0 x1 i 0 := by
  have e : idx_main_v36 (idx_main_v37 (ix1 i)) = ix2 i 0 := funext fun d => by
    fin_cases d
    · exact Fin.ext (Nat.div_one _)
    · rfl
  rw [val_main_v37_apply, val_main_v36_apply, e, v35_at]

theorem v39_at (i : Fin 200000) : val_main_v39 x0 x1 (ix1 i) = ex x0 x1 i 1 := by
  have e : idx_main_v38 (idx_main_v39 (ix1 i)) = ix2 i 1 := funext fun d => by
    fin_cases d
    · exact Fin.ext (Nat.div_one _)
    · rfl
  rw [val_main_v39_apply, val_main_v38_apply, e, v35_at]

theorem v42_at (i : Fin 200000) : val_main_v42 x0 x1 (ix1 i) = ex x0 x1 i 2 := by
  have e : idx_main_v41 (idx_main_v42 (ix1 i)) = ix2 i 2 := funext fun d => by
    fin_cases d
    · exact Fin.ext (Nat.div_one _)
    · rfl
  rw [val_main_v42_apply, val_main_v41_apply, e, v35_at]

theorem v59_at (i : Fin 200000) : val_main_v59 x0 x1 (ix1 i) = lo x0 x1 i 0 := by
  have e : idx_main_v58 (idx_main_v59 (ix1 i)) = ix2 i 0 := funext fun d => by
    fin_cases d
    · exact Fin.ext (Nat.div_one _)
    · rfl
  rw [val_main_v59_apply, val_main_v58_apply, e, v24_at]

theorem v66_at (i : Fin 200000) : val_main_v66 x0 x1 (ix1 i) = lo x0 x1 i 1 := by
  have e : idx_main_v65 (idx_main_v66 (ix1 i)) = ix2 i 1 := funext fun d => by
    fin_cases d
    · exact Fin.ext (Nat.div_one _)
    · rfl
  rw [val_main_v66_apply, val_main_v65_apply, e, v24_at]

theorem v73_at (i : Fin 200000) : val_main_v73 x0 x1 (ix1 i) = lo x0 x1 i 2 := by
  have e : idx_main_v72 (idx_main_v73 (ix1 i)) = ix2 i 2 := funext fun d => by
    fin_cases d
    · exact Fin.ext (Nat.div_one _)
    · rfl
  rw [val_main_v73_apply, val_main_v72_apply, e, v24_at]

theorem v81_at (i : Fin 200000) : val_main_v81 x0 x1 (ix1 i) = ex x0 x1 i 0 := by
  have e : idx_main_v80 (idx_main_v81 (ix1 i)) = ix2 i 0 := funext fun d => by
    fin_cases d
    · exact Fin.ext (Nat.div_one _)
    · rfl
  rw [val_main_v81_apply, val_main_v80_apply, e, v35_at]

theorem v88_at (i : Fin 200000) : val_main_v88 x0 x1 (ix1 i) = ex x0 x1 i 1 := by
  have e : idx_main_v87 (idx_main_v88 (ix1 i)) = ix2 i 1 := funext fun d => by
    fin_cases d
    · exact Fin.ext (Nat.div_one _)
    · rfl
  rw [val_main_v88_apply, val_main_v87_apply, e, v35_at]

theorem v98_at (i : Fin 200000) : val_main_v98 x0 x1 (ix1 i) = ex x0 x1 i 2 := by
  have e : idx_main_v97 (idx_main_v98 (ix1 i)) = ix2 i 2 := funext fun d => by
    fin_cases d
    · exact Fin.ext (Nat.div_one _)
    · rfl
  rw [val_main_v98_apply, val_main_v97_apply, e, v35_at]

/-- «or» along the second axis of three. -/
theorem or_three (x : IVec S200000x3 1) (e : IVec S_ 1) (he : ∀ j, e j = 0#1) (i : Fin 200000) :
    Host.reduce IntOp.ori x e reducesTo_S200000x3_S200000_d1 h_S_ (ix1 i)
      = IntOp.ori (IntOp.ori (x (ix2 i 0)) (x (ix2 i 1))) (x (ix2 i 2)) := by
  have hr : S200000x3.Reduces [1] S200000 := by decide +kernel
  have hl : ∀ k : Fin 3, hr.lift (ix1 i) k = ix2 i k := fun k => funext fun d => by fin_cases d <;> rfl
  rw [Host.reduce_eq_fold_single IntOp.ori x e reducesTo_S200000x3_S200000_d1 hr h_S_ (ix1 i), he]
  have hf : ∀ g : Fin 3 → BitVec 1, (Finset.univ : Finset (Fin 3)).fold IntOp.ori (0#1) g
      = IntOp.ori (g 0) (IntOp.ori (g 1) (IntOp.ori (g 2) (0#1))) := fun g => rfl
  have key : ∀ a b d p q r : BitVec 1, p = a → q = b → r = d →
      IntOp.ori p (IntOp.ori q (IntOp.ori r (0#1))) = IntOp.ori (IntOp.ori a b) d := by
    intro a b d p q r ha hb hd
    subst ha hb hd
    revert p q r
    decide
  exact (hf _).trans (key _ _ _ _ _ _ (congrArg x (hl 0)) (congrArg x (hl 1)) (congrArg x (hl 2)))

theorem v49_at (i : Fin 200000) : val_main_v49 x0 x1 (ix1 i) = over x0 x1 i := by
  have h48 : val_main_v48 x0 x1 (ix1 i)
      = IntOp.ori (IntOp.ori (IntOp.cmpi .sgt (ex x0 x1 i 0) 4#32) (IntOp.cmpi .sgt (ex x0 x1 i 1) 4#32))
          (IntOp.cmpi .sgt (ex x0 x1 i 2) 4#32) := by
    unfold val_main_v48
    rw [or_three (val_main_v47 x0 x1) val_main_c_11 (fun j => rfl) i]
    simp (implicitDefEqProofs := false) only [
    val_main_v47_apply, val_main_v46_apply, val_main_c_10_apply, v35_at]
  rw [val_main_v49_apply, h48]
  simp (implicitDefEqProofs := false) only [
    val_main_v45_apply, val_main_v44_apply, val_main_c_9_apply, val_main_v43_apply, val_main_v40_apply, v37_at,
    v39_at, v42_at]
  have key : ∀ p a b d : BitVec 1, IntOp.ori p (IntOp.ori (IntOp.ori a b) d) = IntOp.ori (IntOp.ori (IntOp.ori p a) b) d := by
    decide
  exact key _ _ _ _

theorem v50_at (i : Fin 200000) : val_main_v50 x0 x1 (ix1 i)
    = Scalar.select (over x0 x1 i) 0#32 (ex x0 x1 i 0 * ex x0 x1 i 1 * ex x0 x1 i 2) := by
  simp (implicitDefEqProofs := false) only [
    val_main_v50_apply, val_main_call5_v1_apply, val_main_call5_v0_apply, val_main_c_12_apply,
    val_main_v43_apply, val_main_v40_apply, v37_at, v39_at, v42_at, v49_at]
  rfl

theorem v259_at (i : Fin 200000) : val_main_v259 x0 x1 (ix1 i)
    = Scalar.select (over x0 x1 i) (BitVec.ofNat 32 i.val) 4294967295#32 := by
  simp (implicitDefEqProofs := false) only [
    val_main_v259_apply, val_main_v258_apply, val_main_call17_v1_apply, val_main_call17_v0_apply,
    val_main_c_72_apply, v49_at]

theorem v64_at (i : Fin 200000) (a : Fin 4) : val_main_v64 x0 x1 (ix4 i a 0 0) = lo x0 x1 i 0 + BitVec.ofNat 32 a.val := by
  have e : idx_main_v60 (idx_main_v62 (ix4 i a 0 0)) = ix1 i := funext fun d => by fin_cases d <;> rfl
  rw [val_main_v64_apply, val_main_v62_apply, val_main_v60_apply, e, v59_at]
  simp (implicitDefEqProofs := false) only [
    val_main_v63_apply, val_main_v61_apply, val_main_v55_apply, val_main_v54_apply]
  rfl

theorem v71_at (i : Fin 200000) (a : Fin 4) : val_main_v71 x0 x1 (ix4 i 0 a 0) = lo x0 x1 i 1 + BitVec.ofNat 32 a.val := by
  have e : idx_main_v67 (idx_main_v69 (ix4 i 0 a 0)) = ix1 i := funext fun d => by fin_cases d <;> rfl
  rw [val_main_v71_apply, val_main_v69_apply, val_main_v67_apply, e, v66_at]
  simp (implicitDefEqProofs := false) only [
    val_main_v70_apply, val_main_v68_apply, val_main_v56_apply, val_main_v54_apply]
  rfl

theorem v78_at (i : Fin 200000) (a : Fin 4) : val_main_v78 x0 x1 (ix4 i 0 0 a) = lo x0 x1 i 2 + BitVec.ofNat 32 a.val := by
  have e : idx_main_v74 (idx_main_v76 (ix4 i 0 0 a)) = ix1 i := funext fun d => by fin_cases d <;> rfl
  rw [val_main_v78_apply, val_main_v76_apply, val_main_v74_apply, e, v73_at]
  simp (implicitDefEqProofs := false) only [
    val_main_v77_apply, val_main_v75_apply, val_main_v57_apply, val_main_v54_apply]
  rfl

theorem v85_at (i : Fin 200000) (a : Fin 4) : val_main_v85 x0 x1 (ix4 i a 0 0)
    = IntOp.cmpi .slt (BitVec.ofNat 32 a.val) (ex x0 x1 i 0) := by
  have e : idx_main_v82 (idx_main_v84 (ix4 i a 0 0)) = ix1 i := funext fun d => by fin_cases d <;> rfl
  rw [val_main_v85_apply, val_main_v84_apply, val_main_v82_apply, e, v81_at]
  simp (implicitDefEqProofs := false) only [
    val_main_v83_apply, val_main_v79_apply, val_main_v55_apply, val_main_v54_apply]

theorem v92_at (i : Fin 200000) (a : Fin 4) : val_main_v92 x0 x1 (ix4 i 0 a 0)
    = IntOp.cmpi .slt (BitVec.ofNat 32 a.val) (ex x0 x1 i 1) := by
  have e : idx_main_v89 (idx_main_v91 (ix4 i 0 a 0)) = ix1 i := funext fun d => by fin_cases d <;> rfl
  rw [val_main_v92_apply, val_main_v91_apply, val_main_v89_apply, e, v88_at]
  simp (implicitDefEqProofs := false) only [
    val_main_v90_apply, val_main_v86_apply, val_main_v56_apply, val_main_v54_apply]

theorem v102_at (i : Fin 200000) (a : Fin 4) : val_main_v102 x0 x1 (ix4 i 0 0 a)
    = IntOp.cmpi .slt (BitVec.ofNat 32 a.val) (ex x0 x1 i 2) := by
  have e : idx_main_v99 (idx_main_v101 (ix4 i 0 0 a)) = ix1 i := funext fun d => by fin_cases d <;> rfl
  rw [val_main_v102_apply, val_main_v101_apply, val_main_v99_apply, e, v98_at]
  simp (implicitDefEqProofs := false) only [
    val_main_v100_apply, val_main_v96_apply, val_main_v57_apply, val_main_v54_apply]

theorem v109_at (i : Fin 200000) (a b d : Fin 4) : val_main_v109 x0 x1 (ix4 i a b d)
    = inBox (ex x0 x1 i 0) (ex x0 x1 i 1) (ex x0 x1 i 2) (BitVec.ofNat 32 a.val) (BitVec.ofNat 32 b.val) (BitVec.ofNat 32 d.val) := by
  have e1 : idx_main_v93 (idx_main_v103 (ix4 i a b d)) = ix4 i a 0 0 := funext fun d => by fin_cases d <;> rfl
  have e2 : idx_main_v94 (idx_main_v103 (ix4 i a b d)) = ix4 i 0 b 0 := funext fun d => by fin_cases d <;> rfl
  have e3 : idx_main_v104 (ix4 i a b d) = ix4 i 0 0 d := funext fun d => by fin_cases d <;> rfl
  have e4 : idx_main_v107 (idx_main_v108 (ix4 i a b d)) = ix1 i := funext fun d => by fin_cases d <;> rfl
  simp (implicitDefEqProofs := false) only [
    val_main_v109_apply, val_main_v105_apply, val_main_v103_apply, val_main_v95_apply, val_main_v93_apply,
    val_main_v94_apply, val_main_v104_apply, val_main_v108_apply, val_main_v107_apply, val_main_v106_apply]
  rw [e1, e2, e3, e4, v85_at, v92_at, v102_at, v49_at]
  rfl

theorem v111_at (i : Fin 200000) (a : Fin 4) : val_main_v111 x0 x1 (ix4 i a 0 0)
    = clip 1023#32 (lo x0 x1 i 0 + BitVec.ofNat 32 a.val) := by
  simp (implicitDefEqProofs := false) only [
    val_main_v111_apply, val_main_v110_apply, val_main_call7_v4_apply, val_main_call7_v3_apply,
    val_main_c_15_apply, val_main_call7_v2_apply, val_main_call7_v1_apply, val_main_call7_v0_apply,
    val_main_c_14_apply, v64_at]
  rfl

theorem v113_at (i : Fin 200000) (a : Fin 4) : val_main_v113 x0 x1 (ix4 i 0 a 0)
    = clip 1023#32 (lo x0 x1 i 1 + BitVec.ofNat 32 a.val) := by
  simp (implicitDefEqProofs := false) only [
    val_main_v113_apply, val_main_v112_apply, val_main_call8_v4_apply, val_main_call8_v3_apply,
    val_main_c_17_apply, val_main_call8_v2_apply, val_main_call8_v1_apply, val_main_call8_v0_apply,
    val_main_c_16_apply, v71_at]
  rfl

theorem v115_at (i : Fin 200000) (a : Fin 4) : val_main_v115 x0 x1 (ix4 i 0 0 a)
    = clip 1023#32 (lo x0 x1 i 2 + BitVec.ofNat 32 a.val) := by
  simp (implicitDefEqProofs := false) only [
    val_main_v115_apply, val_main_v114_apply, val_main_call9_v4_apply, val_main_call9_v3_apply,
    val_main_c_19_apply, val_main_call9_v2_apply, val_main_call9_v1_apply, val_main_call9_v0_apply,
    val_main_c_18_apply, v78_at]
  rfl

theorem v137_at (i : Fin 200000) (a : Fin 4) : val_main_v137 x0 x1 (ix4 i a 0 0)
    = spread (clip 1023#32 (lo x0 x1 i 0 + BitVec.ofNat 32 a.val)) <<< 2 := by
  simp (implicitDefEqProofs := false) only [
    val_main_v137_apply, val_main_v116_apply, val_main_v117_apply, val_main_v118_apply, val_main_v119_apply,
    val_main_v120_apply, val_main_v121_apply, val_main_v122_apply, val_main_v123_apply, val_main_v124_apply,
    val_main_v125_apply, val_main_v126_apply, val_main_v127_apply, val_main_v128_apply, val_main_v129_apply,
    val_main_v130_apply, val_main_v131_apply, val_main_v132_apply, val_main_v133_apply, val_main_v134_apply,
    val_main_v135_apply, val_main_v136_apply, val_main_c_20_apply, val_main_c_21_apply, val_main_c_22_apply,
    val_main_c_23_apply, val_main_c_24_apply, val_main_c_25_apply, val_main_c_26_apply, val_main_c_27_apply,
    val_main_c_28_apply, v111_at]
  generalize clip 1023#32 (lo x0 x1 i 0 + BitVec.ofNat 32 a.val) = x
  rw [shli_lt .host _ 16 (by decide), shli_lt .host _ 8 (by decide), shli_lt .host _ 4 (by decide), shli_lt .host _ 2 (by decide), shli_lt .host _ 2 (by decide)]
  rfl

theorem v159_at (i : Fin 200000) (a : Fin 4) : val_main_v159 x0 x1 (ix4 i 0 a 0)
    = spread (clip 1023#32 (lo x0 x1 i 1 + BitVec.ofNat 32 a.val)) <<< 1 := by
  simp (implicitDefEqProofs := false) only [
    val_main_v159_apply, val_main_v138_apply, val_main_v139_apply, val_main_v140_apply, val_main_v141_apply,
    val_main_v142_apply, val_main_v143_apply, val_main_v144_apply, val_main_v145_apply, val_main_v146_apply,
    val_main_v147_apply, val_main_v148_apply, val_main_v149_apply, val_main_v150_apply, val_main_v151_apply,
    val_main_v152_apply, val_main_v153_apply, val_main_v154_apply, val_main_v155_apply, val_main_v156_apply,
    val_main_v157_apply, val_main_v158_apply, val_main_c_29_apply, val_main_c_30_apply, val_main_c_31_apply,
    val_main_c_32_apply, val_main_c_33_apply, val_main_c_34_apply, val_main_c_35_apply, val_main_c_36_apply,
    val_main_c_37_apply, v113_at]
  generalize clip 1023#32 (lo x0 x1 i 1 + BitVec.ofNat 32 a.val) = x
  rw [shli_lt .host _ 16 (by decide), shli_lt .host _ 8 (by decide), shli_lt .host _ 4 (by decide), shli_lt .host _ 2 (by decide), shli_lt .host _ 1 (by decide)]
  rfl

theorem v182_at (i : Fin 200000) (a : Fin 4) : val_main_v182 x0 x1 (ix4 i 0 0 a)
    = spread (clip 1023#32 (lo x0 x1 i 2 + BitVec.ofNat 32 a.val)) := by
  simp (implicitDefEqProofs := false) only [
    val_main_v182_apply, val_main_v163_apply, val_main_v164_apply, val_main_v165_apply, val_main_v166_apply,
    val_main_v167_apply, val_main_v168_apply, val_main_v169_apply, val_main_v170_apply, val_main_v171_apply,
    val_main_v172_apply, val_main_v173_apply, val_main_v174_apply, val_main_v175_apply, val_main_v176_apply,
    val_main_v177_apply, val_main_v178_apply, val_main_v179_apply, val_main_v180_apply, val_main_v181_apply,
    val_main_c_38_apply, val_main_c_39_apply, val_main_c_40_apply, val_main_c_41_apply, val_main_c_42_apply,
    val_main_c_43_apply, val_main_c_44_apply, val_main_c_45_apply, v115_at]
  generalize clip 1023#32 (lo x0 x1 i 2 + BitVec.ofNat 32 a.val) = x
  rw [shli_lt .host _ 16 (by decide), shli_lt .host _ 8 (by decide), shli_lt .host _ 4 (by decide), shli_lt .host _ 2 (by decide)]
  rfl

theorem v185_at (i : Fin 200000) (a b d : Fin 4) : val_main_v185 x0 x1 (ix4 i a b d)
    = morton (lo x0 x1 i 0 + BitVec.ofNat 32 a.val) (lo x0 x1 i 1 + BitVec.ofNat 32 b.val) (lo x0 x1 i 2 + BitVec.ofNat 32 d.val) := by
  have e1 : idx_main_v160 (idx_main_v183 (ix4 i a b d)) = ix4 i a 0 0 := funext fun d => by fin_cases d <;> rfl
  have e2 : idx_main_v161 (idx_main_v183 (ix4 i a b d)) = ix4 i 0 b 0 := funext fun d => by fin_cases d <;> rfl
  have e3 : idx_main_v184 (ix4 i a b d) = ix4 i 0 0 d := funext fun d => by fin_cases d <;> rfl
  simp (implicitDefEqProofs := false) only [
    val_main_v185_apply, val_main_v183_apply, val_main_v162_apply, val_main_v160_apply, val_main_v161_apply,
    val_main_v184_apply]
  rw [e1, e2, e3, v137_at, v159_at, v182_at]
  rfl

theorem v187_at (i : Fin 200000) (a b d : Fin 4) : val_main_v187 x0 x1 (ix4 i a b d)
    = Scalar.select (inBox (ex x0 x1 i 0) (ex x0 x1 i 1) (ex x0 x1 i 2) (BitVec.ofNat 32 a.val) (BitVec.ofNat 32 b.val) (BitVec.ofNat 32 d.val))
        (morton (lo x0 x1 i 0 + BitVec.ofNat 32 a.val) (lo x0 x1 i 1 + BitVec.ofNat 32 b.val) (lo x0 x1 i 2 + BitVec.ofNat 32 d.val))
        2147483647#32 := by
  simp (implicitDefEqProofs := false) only [
    val_main_v187_apply, val_main_v186_apply, val_main_call10_v0_apply, val_main_c_46_apply, v109_at, v185_at]

theorem v193_at (i : Fin 200000) (a : Fin 4) : val_main_v193 x0 x1 (ix4 i a 0 0)
    = clip 31#32 ((lo x0 x1 i 0 + BitVec.ofNat 32 a.val).sshiftRight 5) := by
  simp (implicitDefEqProofs := false) only [
    val_main_v193_apply, val_main_call11_v4_apply, val_main_call11_v3_apply, val_main_c_49_apply,
    val_main_call11_v2_apply, val_main_call11_v1_apply, val_main_call11_v0_apply, val_main_c_48_apply,
    val_main_v191_apply, val_main_v192_apply, val_main_c_47_apply, v64_at]
  rw [shrsi_lt .host _ 5 (by decide)]
  rfl

theorem v198_at (i : Fin 200000) (a : Fin 4) : val_main_v198 x0 x1 (ix4 i 0 a 0)
    = clip 31#32 ((lo x0 x1 i 1 + BitVec.ofNat 32 a.val).sshiftRight 5) := by
  simp (implicitDefEqProofs := false) only [
    val_main_v198_apply, val_main_call12_v4_apply, val_main_call12_v3_apply, val_main_c_53_apply,
    val_main_call12_v2_apply, val_main_call12_v1_apply, val_main_call12_v0_apply, val_main_c_52_apply,
    val_main_v196_apply, val_main_v197_apply, val_main_c_51_apply, v71_at]
  rw [shrsi_lt .host _ 5 (by decide)]
  rfl

theorem v206_at (i : Fin 200000) (a : Fin 4) : val_main_v206 x0 x1 (ix4 i 0 0 a)
    = clip 31#32 ((lo x0 x1 i 2 + BitVec.ofNat 32 a.val).sshiftRight 5) := by
  simp (implicitDefEqProofs := false) only [
    val_main_v206_apply, val_main_call13_v4_apply, val_main_call13_v3_apply, val_main_c_57_apply,
    val_main_call13_v2_apply, val_main_call13_v1_apply, val_main_call13_v0_apply, val_main_c_56_apply,
    val_main_v204_apply, val_main_v205_apply, val_main_c_55_apply, v78_at]
  rw [shrsi_lt .host _ 5 (by decide)]
  rfl

/-- The level-one cell number of a cell. -/
def levelOne (x y z : BitVec 32) : BitVec 32 :=
  (clip 31#32 (x.sshiftRight 5) * 1024#32 + clip 31#32 (y.sshiftRight 5) * 32#32) + clip 31#32 (z.sshiftRight 5)

theorem v209_at (i : Fin 200000) (a b d : Fin 4) : val_main_v209 x0 x1 (ix4 i a b d)
    = levelOne (lo x0 x1 i 0 + BitVec.ofNat 32 a.val) (lo x0 x1 i 1 + BitVec.ofNat 32 b.val) (lo x0 x1 i 2 + BitVec.ofNat 32 d.val) := by
  have e1 : idx_main_v201 (idx_main_v207 (ix4 i a b d)) = ix4 i a 0 0 := funext fun d => by fin_cases d <;> rfl
  have e2 : idx_main_v202 (idx_main_v207 (ix4 i a b d)) = ix4 i 0 b 0 := funext fun d => by fin_cases d <;> rfl
  have e3 : idx_main_v208 (ix4 i a b d) = ix4 i 0 0 d := funext fun d => by fin_cases d <;> rfl
  simp (implicitDefEqProofs := false) only [
    val_main_v209_apply, val_main_v207_apply, val_main_v203_apply, val_main_v201_apply, val_main_v202_apply,
    val_main_v195_apply, val_main_v200_apply, val_main_v194_apply, val_main_v199_apply, val_main_c_50_apply,
    val_main_c_54_apply, val_main_v208_apply]
  rw [e1, e2, e3, v193_at, v198_at, v206_at]
  rfl

theorem v190_at (i : Fin 200000) (a b d : Fin 4) : val_main_v190 (F := Ideal) (ix4 i a b d) = BitVec.ofNat 32 i.val := by
  simp (implicitDefEqProofs := false) only [
    val_main_v190_apply, val_main_v189_apply, val_main_v188_apply]

end Cert.RefRead
-- ==== Proof.Region.lean ====
module

public import proofs.«01_k».proof.Proof.Gen.KernelIdeal.Frame
public import proofs.«01_k».proof.Proof.Block
public import proofs.«01_k».proof.Proof.RefRead
public import Idealize.ShloMosaic.Lib.Pipeline.ValueKit

@[expose] public section

set_option maxRecDepth 16384

noncomputable section

namespace Cert.Value

open Cert.KernelIdeal Cert.KernelIdeal.Gen
open Idealize.ShloMosaic hiding ix0 ix1 ix2 ix3 ix4
open Idealize.ShloMosaic.TcCoe Idealize.ShloMosaic.Tactic Idealize.ShloMosaic.ValueIdx
open Idealize.SL Idealize.SL.RA Idealize.SL.Sem
open Idealize.ShloMosaic.Pipeline (Dat Cfg Window cellOf)

variable (m : (ℓ : Loc nD τ sig) → Buf (Elt Ideal) ℓ)

theorem one_pos : 0 < S1.numel := by rw [numel1_S1]; exact Nat.one_pos

/-- Launch parameter 0, as a grid step reads it. -/
def par0 (c : Dev nD) (t : Fin cfg0.N) : Elt Ideal .f32 :=
  View.ld (Val := Elt Ideal) (iblk m c 0 t) (Rect.unit (s := S4) ![0] S1.size inb_S4_S1_0) (Shape.Idx.first one_pos)

/-- Launch parameter 1, as a grid step reads it. -/
def par1 (c : Dev nD) (t : Fin cfg0.N) : Elt Ideal .f32 :=
  View.ld (Val := Elt Ideal) (iblk m c 0 t) (Rect.unit (s := S4) ![1] S1.size inb_S4_S1_1) (Shape.Idx.first one_pos)

/-- Launch parameter 2, as a grid step reads it. -/
def par2 (c : Dev nD) (t : Fin cfg0.N) : Elt Ideal .f32 :=
  View.ld (Val := Elt Ideal) (iblk m c 0 t) (Rect.unit (s := S4) ![2] S1.size inb_S4_S1_2) (Shape.Idx.first one_pos)

/-- Launch parameter 3, as a grid step reads it. -/
def par3 (c : Dev nD) (t : Fin cfg0.N) : Elt Ideal .f32 :=
  View.ld (Val := Elt Ideal) (iblk m c 0 t) (Rect.unit (s := S4) ![3] S1.size inb_S4_S1_3) (Shape.Idx.first one_pos)

/-- The radii of a grid step. -/
def rad (c : Dev nD) (t : Fin cfg0.N) : Vec Ideal S1000x1 .f32 :=
  View.ld (Val := Elt Ideal) (iblk m c 2 t) (Rect.unit (s := S1000x1) ![0, 0] S1000x1.size inb_S1000x1_S1000x1_0_0)

/-- Coordinate 0 of the centres of a grid step. -/
def pos0 (c : Dev nD) (t : Fin cfg0.N) : Vec Ideal S1000x1 .f32 :=
  View.ld (Val := Elt Ideal) (iblk m c 1 t) (Rect.unit (s := S1000x3) ![0, 0] S1000x1.size inb_S1000x3_S1000x1_0_0)

/-- Coordinate 1 of the centres of a grid step. -/
def pos1 (c : Dev nD) (t : Fin cfg0.N) : Vec Ideal S1000x1 .f32 :=
  View.ld (Val := Elt Ideal) (iblk m c 1 t) (Rect.unit (s := S1000x3) ![0, 1] S1000x1.size inb_S1000x3_S1000x1_0_1)

/-- Coordinate 2 of the centres of a grid step. -/
def pos2 (c : Dev nD) (t : Fin cfg0.N) : Vec Ideal S1000x1 .f32 :=
  View.ld (Val := Elt Ideal) (iblk m c 1 t) (Rect.unit (s := S1000x3) ![0, 2] S1000x1.size inb_S1000x3_S1000x1_0_2)

theorem zero2 : (![0, 0] : Fin 2 → Nat) = fun _ => 0 := by
  funext a; fin_cases a <;> rfl

theorem out4 (c : Dev nD) (t : Fin cfg0.N) : (outsAt0 m c t).2.1
    = Block.counts (par0 m c t) (par1 m c t) (par2 m c t) (par3 m c t) (rad m c t) (pos0 m c t) (pos1 m c t) (pos2 m c t) := by
  unfold outsAt0 out0_A_4
  dsimp only
  rw [View.read_writes_eq_canon _ _ _ (cover0_A_4 c _ _ _ _ _ _ _ _ _ _ _ _ _ _ _ _)]
  unfold kernelRun0_A; dsimp only; sl_unfold_words
  simp only [View.readAt_eq_ld, (hs0_0 t).read_unread, (hs0_1 t).read_unread, (hs0_2 t).read_unread]
  rw [View.canon_unit_zero zero2]
  rfl

theorem out5 (c : Dev nD) (t : Fin cfg0.N) : (outsAt0 m c t).2.2
    = Block.overs (par0 m c t) (par1 m c t) (par2 m c t) (par3 m c t) (rad m c t) (pos0 m c t) (pos1 m c t) (pos2 m c t) (BitVec.ofNat 32 (cfg0.grid.coords t 0).val) := by
  unfold outsAt0 out0_A_5
  dsimp only
  rw [View.read_writes_eq_canon _ _ _ (cover0_A_5 c _ _ _ _ _ _ _ _ _ _ _ _ _ _ _ _)]
  unfold kernelRun0_A; dsimp only; sl_unfold_words
  simp only [View.readAt_eq_ld, (hs0_0 t).read_unread, (hs0_1 t).read_unread, (hs0_2 t).read_unread]
  rw [View.canon_unit_zero zero2]
  rfl

theorem out3 (c : Dev nD) (t : Fin cfg0.N) : (outsAt0 m c t).1
    = Block.words (par0 m c t) (par1 m c t) (par2 m c t) (par3 m c t) (rad m c t) (pos0 m c t) (pos1 m c t) (pos2 m c t) := by
  unfold outsAt0 out0_A_3
  dsimp only
  rw [View.read_writes_eq_canon _ _ _ (cover0_A_3 c _ _ _ _ _ _ _ _ _ _ _ _ _ _ _ _)]
  unfold kernelRun0_A; dsimp only; sl_unfold_words
  simp only [View.readAt_eq_ld, (hs0_0 t).read_unread, (hs0_1 t).read_unread, (hs0_2 t).read_unread]
  rw [View.canon_unit_zero zero2]
  rfl

theorem step_lt (t : Fin cfg0.N) : t.val < 200 := lt_of_lt_of_eq t.isLt N_0

/-- The sphere that row `y` of grid step `t` holds. -/
def sph (t : Fin cfg0.N) (y : Fin 1000) : Fin 200000 := ⟨t.val * 1000 + y.val, by have := step_lt t; omega⟩

/-- Where the blocks of a grid step lie, and its number. -/
theorem steps : ∀ t : Fin cfg0.N, win0_0.index t 0 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ (cfg0.grid.coords t 0).val = t.val :=
  (by decide +kernel : ∀ t : Fin grid0.N, _)

theorem emb1 (t : Fin cfg0.N) (y : S1000x3.Idx) :
    ((cfg0.win 1).blk t).view.emb y = ix2 (sph t (y 0)) (y 1) := by
  funext a
  apply Fin.ext
  match a with
  | ⟨0, _⟩ =>
    show win0_1.index t (0 : Fin 2) * 1000 + 1 * (y 0).val = t.val * 1000 + (y 0).val
    rw [(steps t).2.1]; omega
  | ⟨1, _⟩ =>
    show win0_1.index t (1 : Fin 2) * 3 + 1 * (y 1).val = (y 1).val
    rw [(steps t).2.2.1]; omega

theorem emb2 (t : Fin cfg0.N) (y : S1000x1.Idx) :
    ((cfg0.win 2).blk t).view.emb y = ix2 (sph t (y 0)) (y 1) := by
  funext a
  apply Fin.ext
  match a with
  | ⟨0, _⟩ =>
    show win0_2.index t (0 : Fin 2) * 1000 + 1 * (y 0).val = t.val * 1000 + (y 0).val
    rw [(steps t).2.2.2.1]; omega
  | ⟨1, _⟩ =>
    show win0_2.index t (1 : Fin 2) * 1 + 1 * (y 1).val = (y 1).val
    rw [(steps t).2.2.2.2.1]; omega

theorem emb3 (t : Fin cfg0.N) (y : S1000x64.Idx) :
    ((cfg0.win 3).blk t).view.emb y = ix2 (sph t (y 0)) (y 1) := by
  funext a
  apply Fin.ext
  match a with
  | ⟨0, _⟩ =>
    show win0_3.index t (0 : Fin 2) * 1000 + 1 * (y 0).val = t.val * 1000 + (y 0).val
    rw [(steps t).2.2.2.2.2.1]; omega
  | ⟨1, _⟩ =>
    show win0_3.index t (1 : Fin 2) * 64 + 1 * (y 1).val = (y 1).val
    rw [(steps t).2.2.2.2.2.2.1]; omega

theorem emb4 (t : Fin cfg0.N) (y : S1000x1.Idx) :
    ((cfg0.win 4).blk t).view.emb y = ix2 (sph t (y 0)) (y 1) := by
  funext a
  apply Fin.ext
  match a with
  | ⟨0, _⟩ =>
    show win0_4.index t (0 : Fin 2) * 1000 + 1 * (y 0).val = t.val * 1000 + (y 0).val
    rw [(steps t).2.2.2.2.2.2.2.1]; omega
  | ⟨1, _⟩ =>
    show win0_4.index t (1 : Fin 2) * 1 + 1 * (y 1).val = (y 1).val
    rw [(steps t).2.2.2.2.2.2.2.2.1]; omega

theorem emb5 (t : Fin cfg0.N) (y : S1000x1.Idx) :
    ((cfg0.win 5).blk t).view.emb y = ix2 (sph t (y 0)) (y 1) := by
  funext a
  apply Fin.ext
  match a with
  | ⟨0, _⟩ =>
    show win0_5.index t (0 : Fin 2) * 1000 + 1 * (y 0).val = t.val * 1000 + (y 0).val
    rw [(steps t).2.2.2.2.2.2.2.2.2.1]; omega
  | ⟨1, _⟩ =>
    show win0_5.index t (1 : Fin 2) * 1 + 1 * (y 1).val = (y 1).val
    rw [(steps t).2.2.2.2.2.2.2.2.2.2.1]; omega

theorem emb0 (t : Fin cfg0.N) (y : S4.Idx) : ((cfg0.win 0).blk t).view.emb y = y := by
  funext a
  apply Fin.ext
  match a with
  | ⟨0, _⟩ =>
    show win0_0.index t (0 : Fin 1) * 4 + 1 * (y 0).val = (y 0).val
    rw [(steps t).1]; omega

theorem arr3 (c : Dev nD) (G : S200000x64.Idx → BitVec 32)
    (hG : ∀ (t : Fin cfg0.N) (y : S1000x64.Idx), (outsAt0 m c t).1 y = G (ix2 (sph t (y 0)) (y 1))) :
    (dats m 0 c).arrAt 3 cfg0.N = G := by
  refine (dats m 0 c).arrAt_eq_of_covers 3 _ (by decide +kernel) fun t hf y => ?_
  blk_simp
  rw [after0_3]
  exact (hG t y).trans (congrArg G (emb3 t y).symm)

theorem arr4 (c : Dev nD) (G : S200000x1.Idx → BitVec 32)
    (hG : ∀ (t : Fin cfg0.N) (y : S1000x1.Idx), (outsAt0 m c t).2.1 y = G (ix2 (sph t (y 0)) (y 1))) :
    (dats m 0 c).arrAt 4 cfg0.N = G := by
  refine (dats m 0 c).arrAt_eq_of_covers 4 _ (by decide +kernel) fun t hf y => ?_
  blk_simp
  rw [after0_4]
  exact (hG t y).trans (congrArg G (emb4 t y).symm)

theorem arr5 (c : Dev nD) (G : S200000x1.Idx → BitVec 32)
    (hG : ∀ (t : Fin cfg0.N) (y : S1000x1.Idx), (outsAt0 m c t).2.2 y = G (ix2 (sph t (y 0)) (y 1))) :
    (dats m 0 c).arrAt 5 cfg0.N = G := by
  refine (dats m 0 c).arrAt_eq_of_covers 5 _ (by decide +kernel) fun t hf y => ?_
  blk_simp
  rw [after0_5]
  exact (hG t y).trans (congrArg G (emb5 t y).symm)

theorem centre (c : Dev nD) (t : Fin cfg0.N) (y : S1000x3.Idx) :
    iblk m c 1 t y = V m c main_arg0 (ix2 (sph t (y 0)) (y 1)) :=
  congrArg (V m c main_arg0) (emb1 t y)

theorem radius (c : Dev nD) (t : Fin cfg0.N) (y : S1000x1.Idx) :
    iblk m c 2 t y = V m c main_v19 (ix2 (sph t (y 0)) (y 1)) :=
  congrArg (V m c main_v19) (emb2 t y)

theorem param (c : Dev nD) (t : Fin cfg0.N) (y : S4.Idx) : iblk m c 0 t y = V m c main_v18 y :=
  congrArg (V m c main_v18) (emb0 t y)

end Cert.Value

end
-- ==== Proof.Arrays.lean ====
/-
  The three arrays the launch leaves, each as one stage of the reference computation read at a sphere and a slot.
-/
module

public import proofs.«01_k».proof.Proof.Region
public import proofs.«01_k».proof.Proof.RefRead

@[expose] public section

set_option maxRecDepth 16384

noncomputable section

namespace Cert.Value

open Cert.KernelIdeal Cert.KernelIdeal.Gen
open Idealize.ShloMosaic hiding ix0 ix1 ix2 ix3 ix4
open Idealize.ShloMosaic.TcCoe Idealize.ShloMosaic.Tactic Idealize.ShloMosaic.ValueIdx
open Idealize.SL Idealize.SL.RA Idealize.SL.Sem
open Idealize.ShloMosaic.Pipeline (Dat Cfg Window cellOf)
open Cert.ReferenceIdeal.Read Cert.RefRead Cert.Words

variable (m : (ℓ : Loc nD τ sig) → Buf (Elt Ideal) ℓ) (c : Dev nD)
variable (x0 : S200000x3.Idx → Elt Ideal .f32) (x1 : S200000.Idx → Elt Ideal .f32)

/-- What the launch finds: the centres, the radii as a column, and the four parameters. -/
structure Entry : Prop where
  pos : V m c main_arg0 = x0
  rad : ∀ i : Fin 200000, V m c main_v19 (ix2 i 0) = x1 (ix1 i)
  par : ∀ k : Fin 3, V m c main_v18 (ix1 (k.castSucc)) = val_main_v11 x0 x1 (ix1 k)
  side : V m c main_v18 (ix1 (3 : Fin 4)) = val_main_v16 x0 x1 ix0

variable {m c x0 x1} (h : Entry m c x0 x1) (t : Fin cfg0.N)
include h

theorem par0_eq : par0 m c t = val_main_v11 x0 x1 (ix1 0) :=
  (View.ld_unit_apply_of _ _ _ _ _ (ix1 0) fun a => by fin_cases a; rfl).trans ((param m c t _).trans (h.par 0))

theorem par1_eq : par1 m c t = val_main_v11 x0 x1 (ix1 1) :=
  (View.ld_unit_apply_of _ _ _ _ _ (ix1 1) fun a => by fin_cases a; rfl).trans ((param m c t _).trans (h.par 1))

theorem par2_eq : par2 m c t = val_main_v11 x0 x1 (ix1 2) :=
  (View.ld_unit_apply_of _ _ _ _ _ (ix1 2) fun a => by fin_cases a; rfl).trans ((param m c t _).trans (h.par 2))

theorem par3_eq : par3 m c t = val_main_v16 x0 x1 ix0 :=
  (View.ld_unit_apply_of _ _ _ _ _ (ix1 3) fun a => by fin_cases a; rfl).trans ((param m c t _).trans h.side)

theorem rad_eq (y : S1000x1.Idx) : rad m c t y = x1 (ix1 (sph t (y 0))) := by
  have e : (y 1).val = 0 := congrArg Fin.val (Subsingleton.elim (α := Fin 1) (y 1) 0)
  refine (View.ld_unit_apply_of _ _ _ _ _ (ix2 (y 0) 0) fun a => ?_).trans ((radius m c t _).trans (h.rad _))
  fin_cases a
  · exact (Nat.zero_add _).symm
  · exact (congrArg (0 + ·) e).symm

theorem pos0_eq (y : S1000x1.Idx) : pos0 m c t y = x0 (ix2 (sph t (y 0)) 0) := by
  have e : (y 1).val = 0 := congrArg Fin.val (Subsingleton.elim (α := Fin 1) (y 1) 0)
  refine (View.ld_unit_apply_of _ _ _ _ _ (ix2 (y 0) 0) fun a => ?_).trans ((centre m c t _).trans (congrFun h.pos _))
  fin_cases a
  · exact (Nat.zero_add _).symm
  · exact (congrArg (0 + ·) e).symm

theorem pos1_eq (y : S1000x1.Idx) : pos1 m c t y = x0 (ix2 (sph t (y 0)) 1) := by
  have e : (y 1).val = 0 := congrArg Fin.val (Subsingleton.elim (α := Fin 1) (y 1) 0)
  refine (View.ld_unit_apply_of _ _ _ _ _ (ix2 (y 0) 1) fun a => ?_).trans ((centre m c t _).trans (congrFun h.pos _))
  fin_cases a
  · exact (Nat.zero_add _).symm
  · exact (congrArg (1 + ·) e).symm

theorem pos2_eq (y : S1000x1.Idx) : pos2 m c t y = x0 (ix2 (sph t (y 0)) 2) := by
  have e : (y 1).val = 0 := congrArg Fin.val (Subsingleton.elim (α := Fin 1) (y 1) 0)
  refine (View.ld_unit_apply_of _ _ _ _ _ (ix2 (y 0) 2) fun a => ?_).trans ((centre m c t _).trans (congrFun h.pos _))
  fin_cases a
  · exact (Nat.zero_add _).symm
  · exact (congrArg (2 + ·) e).symm

theorem counts_arr : (dats m 0 c).arrAt 4 cfg0.N = fun i : S200000x1.Idx => val_main_v50 x0 x1 (ix1 (i 0)) := by
  refine arr4 m c _ fun t y => ?_
  rw [out4, Block.counts_at]
  show _ = val_main_v50 x0 x1 (ix1 (sph t (y 0)))
  rw [v50_at]
  unfold Block.bigAt over ex
  rw [par0_eq h, par1_eq h, par2_eq h, par3_eq h, rad_eq h, pos0_eq h, pos1_eq h, pos2_eq h]

theorem overs_arr : (dats m 0 c).arrAt 5 cfg0.N = fun i : S200000x1.Idx => val_main_v259 x0 x1 (ix1 (i 0)) := by
  refine arr5 m c _ fun t y => ?_
  rw [out5, Block.overs_at]
  show _ = val_main_v259 x0 x1 (ix1 (sph t (y 0)))
  rw [v259_at]
  have e : BitVec.ofNat 32 (cfg0.grid.coords t 0).val * 1000#32 + BitVec.ofNat 32 (y 0).val
      = BitVec.ofNat 32 (sph t (y 0)).val := by
    rw [(steps t).2.2.2.2.2.2.2.2.2.2.2, ← BitVec.ofNat_mul, ← BitVec.ofNat_add]
    rfl
  rw [e]
  unfold Block.bigAt over ex
  rw [par0_eq h, par1_eq h, par2_eq h, par3_eq h, rad_eq h, pos0_eq h, pos1_eq h, pos2_eq h]

/-- The slot a column of the Morton array stands for. -/
abbrev slot (i : S200000x64.Idx) : (⟨4, ![200000, 4, 4, 4]⟩ : Shape).Idx :=
  ix4 (i 0) ⟨(i 1).val / 16, by have : (i 1).val < 64 := (i 1).isLt; omega⟩ ⟨(i 1).val / 4 % 4, Nat.mod_lt _ (by decide)⟩
    ⟨(i 1).val % 4, Nat.mod_lt _ (by decide)⟩

theorem words_arr : (dats m 0 c).arrAt 3 cfg0.N = fun i : S200000x64.Idx => val_main_v187 x0 x1 (slot i) := by
  refine arr3 m c _ fun t y => ?_
  rw [out3, Block.words_at]
  show _ = val_main_v187 x0 x1 (ix4 (sph t (y 0)) _ _ _)
  rw [v187_at]
  unfold ex lo
  rw [par0_eq h, par1_eq h, par2_eq h, par3_eq h, rad_eq h, pos0_eq h, pos1_eq h, pos2_eq h]

end Cert.Value

end
-- ==== Proof.PrefixA.lean ====
/-
  The first half of the host operations before the launch: the sphere's two corners, and a low quantile of the lower.
-/
module

public import proofs.«01_k».proof.Proof.Gen.KernelIdeal.Frame
public import proofs.«01_k».proof.Proof.Gen.ReferenceIdeal.Read
public import Idealize.ShloMosaic.Lib.ValueIdxCore
public import Idealize.ShloMosaic.Lib.StableHlo.RunRead

@[expose] public section

set_option maxRecDepth 16384

noncomputable section

namespace Cert.Value

open Cert.KernelIdeal Cert.KernelIdeal.Gen
open Idealize.ShloMosaic
open Idealize.ShloMosaic.TcCoe Idealize.ShloMosaic.Tactic Idealize.ShloMosaic.ValueIdx
open Idealize.ShloMosaic.StableHlo (after TRef.binary TRef.nullary TRef.ternary TRef.unary TRef.toBuf TRef.ofBuf)
open Cert.ReferenceIdeal.Read

/-- The contents of one device's buffers. -/
local notation "Mem" => Valuation τ sig

variable {F : FTy → Type} [FloatOps F]
variable (W : Mem (Elt F)) (x0 : S200000x3.Idx → Elt F .f32) (x1 : S200000.Idx → Elt F .f32)

theorem pre0_v2 (h0 : W (Proc.devRef .tc main_arg0) = x0) (h1 : W (Proc.devRef .tc main_arg1) = x1) :
    after (hostOps0 (F := F)) W (Proc.devRef .tc main_v2) = val_main_v2 x0 x1 := by
  after_reads_simp
  rw [h0, h1]
  rfl

theorem pre0_v5 (h0 : W (Proc.devRef .tc main_arg0) = x0) (h1 : W (Proc.devRef .tc main_arg1) = x1) :
    after (hostOps0 (F := F)) W (Proc.devRef .tc main_v5) = val_main_v5 x0 x1 := by
  after_reads_simp
  rw [h0, h1]
  rfl

theorem pre0_cst : after (hostOps0 (F := F)) W (Proc.devRef .tc main_cst) = val_main_cst := by
  after_reads_simp
  rfl

theorem pre0_c : after (hostOps0 (F := F)) W (Proc.devRef .tc main_c) = fun i => lit0 (S32768.rowMajor i) := by
  after_reads_simp
  rfl

set_option maxRecDepth 100000 in
set_option maxHeartbeats 2000000 in
theorem pre1_v6 (h2 : W (Proc.devRef .tc main_v2) = val_main_v2 x0 x1) (hc : W (Proc.devRef .tc main_cst) = val_main_cst) :
    after (hostOps0_1 (F := F)) W (Proc.devRef .tc main_v6) = val_main_v6 x0 x1 := by
  after_reads_simp
  rw [h2, hc]
  simp (implicitDefEqProofs := false) only [StableHlo.TRef.toBuf, StableHlo.TRef.ofBuf, cast_eq]
  rfl

end Cert.Value

end
-- ==== Proof.PrefixB.lean ====
/-
  The high quantile of the upper corner, before the launch.
-/
module

public import proofs.«01_k».proof.Proof.Gen.KernelIdeal.Frame
public import proofs.«01_k».proof.Proof.Gen.ReferenceIdeal.Read
public import Idealize.ShloMosaic.Lib.ValueIdxCore
public import Idealize.ShloMosaic.Lib.StableHlo.RunRead

@[expose] public section

set_option maxRecDepth 16384

noncomputable section

namespace Cert.Value

open Cert.KernelIdeal Cert.KernelIdeal.Gen
open Idealize.ShloMosaic
open Idealize.ShloMosaic.TcCoe Idealize.ShloMosaic.Tactic Idealize.ShloMosaic.ValueIdx
open Idealize.ShloMosaic.StableHlo (after TRef.binary TRef.nullary TRef.ternary TRef.unary TRef.toBuf TRef.ofBuf)
open Cert.ReferenceIdeal.Read

/-- The contents of one device's buffers. -/
local notation "Mem" => Valuation τ sig

variable {F : FTy → Type} [FloatOps F]
variable (W : Mem (Elt F)) (x0 : S200000x3.Idx → Elt F .f32) (x1 : S200000.Idx → Elt F .f32)

set_option maxRecDepth 100000 in
set_option maxHeartbeats 2000000 in
theorem pre3_v7 (h0 : W (Proc.devRef .tc main_v5) = val_main_v5 x0 x1) (h1 : W (Proc.devRef .tc main_cst_0) = val_main_cst_0) :
    after (hostOps0_3 (F := F)) W (Proc.devRef .tc main_v7) = val_main_v7 x0 x1 := by
  after_reads_simp
  rw [h0, h1]
  simp (implicitDefEqProofs := false) only [StableHlo.TRef.toBuf, StableHlo.TRef.ofBuf, cast_eq]
  rfl

end Cert.Value

end
-- ==== Proof.PrefixC.lean ====
/-
  The rest of the host operations before the launch: the corner of the grid, the side of a cell, the launch's operands.
-/
module

public import proofs.«01_k».proof.Proof.Gen.KernelIdeal.Frame
public import proofs.«01_k».proof.Proof.Gen.ReferenceIdeal.Read
public import Idealize.ShloMosaic.Lib.ValueIdxCore
public import Idealize.ShloMosaic.Lib.StableHlo.RunRead

@[expose] public section

set_option maxRecDepth 16384

noncomputable section

namespace Cert.Value

open Cert.KernelIdeal Cert.KernelIdeal.Gen
open Idealize.ShloMosaic
open Idealize.ShloMosaic.TcCoe Idealize.ShloMosaic.Tactic Idealize.ShloMosaic.ValueIdx
open Idealize.ShloMosaic.StableHlo (after TRef.binary TRef.nullary TRef.ternary TRef.unary TRef.toBuf TRef.ofBuf)
open Cert.ReferenceIdeal.Read

/-- The contents of one device's buffers. -/
local notation "Mem" => Valuation τ sig

variable {F : FTy → Type} [FloatOps F]
variable (W : Mem (Elt F)) (x0 : S200000x3.Idx → Elt F .f32) (x1 : S200000.Idx → Elt F .f32)

set_option maxRecDepth 100000 in
set_option maxHeartbeats 2000000 in
theorem pre5_v14 (h0 : W (Proc.devRef .tc main_v13) = val_main_v13 x0 x1) :
    after (hostOps0_5 (F := F)) W (Proc.devRef .tc main_v14) = val_main_v14 x0 x1 := by
  after_reads_simp
  rw [h0]
  simp (implicitDefEqProofs := false) only [StableHlo.TRef.toBuf, StableHlo.TRef.ofBuf, cast_eq]
  rfl

set_option maxRecDepth 100000 in
set_option maxHeartbeats 2000000 in
theorem pre4_v11 (h0 : W (Proc.devRef .tc main_v6) = val_main_v6 x0 x1) (h1 : W (Proc.devRef .tc main_v7) = val_main_v7 x0 x1) :
    after (hostOps0_4 (F := F)) W (Proc.devRef .tc main_v11) = val_main_v11 x0 x1 := by
  after_reads_simp
  rw [h0, h1]
  rfl

set_option maxRecDepth 100000 in
set_option maxHeartbeats 2000000 in
theorem pre4_v13 (h0 : W (Proc.devRef .tc main_v5) = val_main_v5 x0 x1) (h1 : W (Proc.devRef .tc main_v2) = val_main_v2 x0 x1) :
    after (hostOps0_4 (F := F)) W (Proc.devRef .tc main_v13) = val_main_v13 x0 x1 := by
  after_reads_simp
  rw [h0, h1]
  rfl

set_option maxRecDepth 100000 in
set_option maxHeartbeats 2000000 in
theorem pre6_v16 (h0 : W (Proc.devRef .tc main_v14) = val_main_v14 x0 x1) :
    after (hostOps0_6 (F := F)) W (Proc.devRef .tc main_v16) = val_main_v16 x0 x1 := by
  after_reads_simp
  rw [h0]
  rfl

theorem pre6_v18 : after (hostOps0_6 (F := F)) W (Proc.devRef .tc main_v18)
    = concatenate S4 0 [⟨S3, W (Proc.devRef .tc main_v11)⟩,
        ⟨S1, broadcastInDim S1 ![] bcast_S_S1 (after (hostOps0_6 (F := F)) W (Proc.devRef .tc main_v16))⟩] concatenates_S3_S1_S4_d0 := by
  after_reads_simp
  rfl

theorem pre6_v19 : after (hostOps0_6 (F := F)) W (Proc.devRef .tc main_v19)
    = shapeCast S200000x1 (W (Proc.devRef .tc main_arg1)) shapeCasts_S200000_S200000x1 := by
  after_reads_simp
  rfl

theorem pre2_cst : after (hostOps0_2 (F := F)) W (Proc.devRef .tc main_cst_0) = val_main_cst_0 := by
  after_reads_simp
  rfl

end Cert.Value

end
-- ==== Proof.Entry.lean ====
/-
  What the launch finds: its operands in terms of the two arguments, and the reference's corner and side of a cell.
-/
module

public import proofs.«01_k».proof.Proof.Arrays
public import proofs.«01_k».proof.Proof.PrefixA
public import proofs.«01_k».proof.Proof.PrefixB
public import proofs.«01_k».proof.Proof.PrefixC
public import Idealize.ShloMosaic.Lib.Routing.Ops

@[expose] public section

set_option maxRecDepth 16384

noncomputable section

namespace Cert.Value

open Cert.KernelIdeal Cert.KernelIdeal.Gen
open Idealize.ShloMosaic hiding ix0 ix1 ix2 ix3 ix4
open Idealize.ShloMosaic.TcCoe Idealize.ShloMosaic.Tactic Idealize.ShloMosaic.ValueIdx
open Idealize.ShloMosaic.StableHlo (after after_append)
open Cert.ReferenceIdeal.Read

variable (m : (ℓ : Loc nD τ sig) → Buf (Elt Ideal) ℓ) (c : Dev nD)

/-- The centres and the radii a run starts from. -/
abbrev cen : S200000x3.Idx → Elt Ideal .f32 := m ((c : Thread nD τ).loc main_arg0)
abbrev radii : S200000.Idx → Elt Ideal .f32 := m ((c : Thread nD τ).loc main_arg1)

def st1 : Valuation τ sig (Elt Ideal) := after (hostOps0 (F := Ideal)) fun b => m (c, b)
def st2 : Valuation τ sig (Elt Ideal) := after (hostOps0_1 (F := Ideal)) (st1 m c)
def st3 : Valuation τ sig (Elt Ideal) := after (hostOps0_2 (F := Ideal)) (st2 m c)
def st4 : Valuation τ sig (Elt Ideal) := after (hostOps0_3 (F := Ideal)) (st3 m c)
def st5 : Valuation τ sig (Elt Ideal) := after (hostOps0_4 (F := Ideal)) (st4 m c)
def st6 : Valuation τ sig (Elt Ideal) := after (hostOps0_5 (F := Ideal)) (st5 m c)

theorem V0_st : V0 m c = after (hostOps0_6 (F := Ideal)) (st6 m c) := by
  unfold V0 st6 st5 st4 st3 st2 st1
  simp (implicitDefEqProofs := false) only [List.flatten_cons, List.flatten_nil, List.append_nil, after_append]

theorem st1_v2 : st1 m c (Proc.devRef .tc main_v2) = val_main_v2 (cen m c) (radii m c) := pre0_v2 _ _ _ rfl rfl
theorem st1_v5 : st1 m c (Proc.devRef .tc main_v5) = val_main_v5 (cen m c) (radii m c) := pre0_v5 _ _ _ rfl rfl
theorem st2_v6 : st2 m c (Proc.devRef .tc main_v6) = val_main_v6 (cen m c) (radii m c) :=
  pre1_v6 _ _ _ (st1_v2 m c) (pre0_cst _)
theorem st2_v5 : st2 m c (Proc.devRef .tc main_v5) = val_main_v5 (cen m c) (radii m c) := by
  rw [← st1_v5]; unfold st2; after_reads_simp
theorem st2_v2 : st2 m c (Proc.devRef .tc main_v2) = val_main_v2 (cen m c) (radii m c) := by
  rw [← st1_v2]; unfold st2; after_reads_simp
theorem st3_v5 : st3 m c (Proc.devRef .tc main_v5) = val_main_v5 (cen m c) (radii m c) := by
  rw [← st2_v5]; unfold st3; after_reads_simp
theorem st4_v7 : st4 m c (Proc.devRef .tc main_v7) = val_main_v7 (cen m c) (radii m c) :=
  pre3_v7 _ _ _ (st3_v5 m c) (pre2_cst _)
theorem st4_v6 : st4 m c (Proc.devRef .tc main_v6) = val_main_v6 (cen m c) (radii m c) := by
  rw [← st2_v6]; unfold st4 st3; after_reads_simp
theorem st4_v5 : st4 m c (Proc.devRef .tc main_v5) = val_main_v5 (cen m c) (radii m c) := by
  rw [← st3_v5]; unfold st4; after_reads_simp
theorem st4_v2 : st4 m c (Proc.devRef .tc main_v2) = val_main_v2 (cen m c) (radii m c) := by
  rw [← st2_v2]; unfold st4 st3; after_reads_simp
theorem st5_v11 : st5 m c (Proc.devRef .tc main_v11) = val_main_v11 (cen m c) (radii m c) :=
  pre4_v11 _ _ _ (st4_v6 m c) (st4_v7 m c)
theorem st5_v13 : st5 m c (Proc.devRef .tc main_v13) = val_main_v13 (cen m c) (radii m c) :=
  pre4_v13 _ _ _ (st4_v5 m c) (st4_v2 m c)
theorem st6_v14 : st6 m c (Proc.devRef .tc main_v14) = val_main_v14 (cen m c) (radii m c) :=
  pre5_v14 _ _ _ (st5_v13 m c)
theorem st6_v11 : st6 m c (Proc.devRef .tc main_v11) = val_main_v11 (cen m c) (radii m c) := by
  rw [← st5_v11]; unfold st6; after_reads_simp

/-- The side of a cell. -/
theorem V_v16 : V0 m c (Proc.devRef .tc main_v16) = val_main_v16 (cen m c) (radii m c) := by
  rw [V0_st]; exact pre6_v16 _ _ _ (st6_v14 m c)

/-- The corner of the grid. -/
theorem V_v11 : V0 m c (Proc.devRef .tc main_v11) = val_main_v11 (cen m c) (radii m c) := by
  rw [V0_st, ← st6_v11]; after_reads_simp

/-- The table of spread ten-bit words. -/
theorem V_c : V0 m c (Proc.devRef .tc main_c) = fun i => lit0 (S32768.rowMajor i) := by
  rw [V0_st, ← pre0_c (fun b => m (c, b))]
  unfold st6 st5 st4 st3 st2 st1
  after_reads_simp

theorem V_v18 : V m c main_v18 = concatenate S4 0 [⟨S3, val_main_v11 (cen m c) (radii m c)⟩,
    ⟨S1, broadcastInDim S1 ![] bcast_S_S1 (val_main_v16 (cen m c) (radii m c))⟩] concatenates_S3_S1_S4_d0 := by
  show V0 m c (Proc.devRef .tc main_v18) = _
  rw [V0_st, pre6_v18, st6_v11, ← V0_st, V_v16]

theorem V_v19 : V m c main_v19 = shapeCast S200000x1 (radii m c) shapeCasts_S200000_S200000x1 := by
  have e : st6 m c (Proc.devRef .tc main_arg1) = radii m c := by
    unfold st6 st5 st4 st3 st2 st1
    after_reads_simp
  show V0 m c (Proc.devRef .tc main_v19) = _
  rw [V0_st, pre6_v19, e]

/-- The launch's operands. -/
theorem entry : Entry m c (cen m c) (radii m c) where
  pos := V_main_arg0 m c
  rad i := by
    rw [V_v19]
    exact Routing.cast12 (a := 200000) (b := 1) (n := 200000) _ _ i 0 i (by simp)
  par k := by
    rw [V_v18]
    generalize val_main_v11 (cen m c) (radii m c) = u
    generalize val_main_v16 (cen m c) (radii m c) = v
    refine concatenate_pair_apply_left (t := S4) (s₁ := S3) (s₂ := S1) 0 u _ _ _ rfl (ix1 k) fun b => ?_
    fin_cases b; rfl
  side := by
    rw [V_v18]
    generalize val_main_v11 (cen m c) (radii m c) = u
    generalize val_main_v16 (cen m c) (radii m c) = v
    refine (concatenate_pair_apply_right (t := S4) (s₁ := S3) (s₂ := S1) 0 u _ _ _ rfl rfl (ix1 0) (fun b hb => ?_) rfl).trans ?_
    · fin_cases b; exact absurd rfl hb
    · exact congrArg v (funext fun d => d.elim0)

end Cert.Value

end
-- ==== Proof.TailB.lean ====
/-
  The host operations after the launch that the reference does not have, as functions of words: the repeated sphere
  numbers, and the histogram read through a table.
-/
module

public import proofs.«01_k».proof.Proof.Gen.KernelIdeal.Frame
public import proofs.«01_k».proof.Proof.Gen.ReferenceIdeal.Read
public import Idealize.ShloMosaic.Lib.ValueIdxCore
public import Idealize.ShloMosaic.Lib.StableHlo.RunRead

@[expose] public section

set_option maxRecDepth 16384

noncomputable section

namespace Cert.Value

open Cert.KernelIdeal Cert.KernelIdeal.Gen
open Idealize.ShloMosaic
open Idealize.ShloMosaic.TcCoe Idealize.ShloMosaic.Tactic Idealize.ShloMosaic.ValueIdx
open Idealize.ShloMosaic.StableHlo (after TRef.binary TRef.nullary TRef.ternary TRef.unary TRef.toBuf TRef.ofBuf)
open Cert.ReferenceIdeal.Read

/-- The contents of one device's buffers. -/
local notation "Mem" => Valuation τ sig

variable {F : FTy → Type} [FloatOps F]
variable (W : Mem (Elt F)) (x0 : S200000x3.Idx → Elt F .f32) (x1 : S200000.Idx → Elt F .f32)

/-- The words `v`, shifted one place along and the last put first. -/
def roll (v : IVec S200000 32) : IVec S200000 32 :=
  concatenate S200000 0 [⟨S1, extractStridedSlice S1 ![199999] v slices_S200000_S1_199999⟩,
    ⟨S199999, extractStridedSlice S199999 ![0] v slices_S200000_S199999_0⟩] concatenates_S1_S199999_S200000_d0

/-- The words `v`, the first made zero. -/
def zeroFirst (v : IVec S200000 32) : IVec S200000 32 :=
  Host.scatter scatter_S200000_S1_S__n_0_0_0 (fun _ b => b) v (broadcastInDim S1 ![] bcast_S_S1 (constantI S_ 32 0#32)) (constantI S_ 32 0#32)

/-- The running sums of 200000 words. -/
def sums (v : IVec S200000 32) : IVec S200000 32 :=
  Host.reduceWindow IntOp.addi ![200000] ![1] ![199999] ![0] v (broadcastInDim S_ ![] bcast_S_S_ (constantI S_ 32 0#32))
    reduceWindows_S200000_S200000_w200000s1p199999_0 h_S_

/-- A word below zero counted from the end of an array of `n`. -/
def wrap {s : Shape} (h : S_.BroadcastsInDim s ![]) (n : BitVec 32) (v : IVec s 32) : IVec s 32 :=
  select (cmpi .slt v (broadcastInDim s ![] h (constantI S_ 32 0#32)))
    (addi v (broadcastInDim s ![] h (constantI S_ 32 n))) v

/-- How many of the words `v` name each of 12800000 places. -/
def marks (v : IVec S200000 32) : IVec S12800000 32 :=
  Host.scatter scatter_S12800000_S200000x1_S200000_n_0_0_1 IntOp.addi
    (broadcastInDim S12800000 ![] bcast_S_S12800000 (constantI S_ 32 0#32))
    (broadcastInDim S200000x1 ![0] bcast_S200000_S200000x1_0 (wrap bcast_S_S200000 12800000#32 v))
    (broadcastInDim S200000 ![] bcast_S_S200000 (constantI S_ 32 1#32))

/-- The running sums of 12800000 words, less one. -/
def ranks (v : IVec S12800000 32) : IVec S12800000 32 :=
  subi (Host.reduceWindow IntOp.addi ![12800000] ![1] ![12799999] ![0] v (broadcastInDim S_ ![] bcast_S_S_ (constantI S_ 32 0#32))
    reduceWindows_S12800000_S12800000_w12800000s1p12799999_0 h_S_)
    (broadcastInDim S12800000 ![] bcast_S_S12800000 (constantI S_ 32 1#32))

/-- The positions of 12800000 words in an array of 200000, as a column. -/
def column (v : IVec S12800000 32) : IVec S12800000x1 32 :=
  broadcastInDim S12800000x1 ![0] bcast_S12800000_S12800000x1_0 (wrap bcast_S_S12800000 200000#32 v)

/-- The entries of `x` at the positions `v`, and the least word where a position is outside. -/
def takes (x : IVec S200000 32) (v : IVec S12800000 32) : IVec S12800000 32 :=
  select
    (Host.reduce IntOp.andi
      (andi (cmpi .sge (column v) (broadcastInDim S12800000x1 ![] bcast_S_S12800000x1 (constantI S_ 32 0#32)))
        (cmpi .sle (column v) (broadcastInDim S12800000x1 ![0, 1] bcast_S1x1_S12800000x1_0_1
          (broadcastInDim S1x1 ![1] bcast_S1_S1x1_1 (constantI S1 32 199999#32)))))
      (constantI S_ 1 1#1) reducesTo_S12800000x1_S12800000_d1 h_S_)
    (Host.gather gather_S200000_S12800000x1_S12800000_n_0_n_n_0_1_1 x (column v))
    (broadcastInDim S12800000 ![] bcast_S_S12800000 (constantI S_ 32 2147483648#32))

/-- How many of the words `v`, fifteen places down and weighed by `b`, name each of 32768 places. -/
def histogram (v : IVec S12800000 32) (b : IVec S12800000 1) : IVec S32768 32 :=
  Host.scatter scatter_S32768_S12800000x1_S12800000_n_0_0_1 IntOp.addi
    (broadcastInDim S32768 ![] bcast_S_S32768 (constantI S_ 32 0#32))
    (broadcastInDim S12800000x1 ![0] bcast_S12800000_S12800000x1_0 (wrap bcast_S_S12800000 32768#32
      (Host.shrsi v (broadcastInDim S12800000 ![] bcast_S_S12800000 (constantI S_ 32 15#32)))))
    (extui 32 b natLt_1_32)

/-- The 32768 entries of `x` in the order of the table `t`. -/
def reorder (x t : IVec S32768 32) : IVec S32768 32 :=
  Host.gather gather_S32768_S32768x1_S32768_n_0_n_n_0_1_1 x
    (broadcastInDim S32768x1 ![0] bcast_S32768_S32768x1_0 (wrap bcast_S_S32768 32768#32 t))

set_option maxRecDepth 100000 in
set_option maxHeartbeats 2000000 in
theorem t0_v21  :
    after (hostOps1 (F := F)) W (Proc.devRef .tc main_v21) = shapeCast S200000 (W (Proc.devRef .tc main_v20_1)) shapeCasts_S200000x1_S200000 := by
  after_reads_simp
  rfl

set_option maxRecDepth 100000 in
set_option maxHeartbeats 2000000 in
theorem t0_v22  :
    after (hostOps1 (F := F)) W (Proc.devRef .tc main_v22) = shapeCast S200000 (W (Proc.devRef .tc main_v20_2)) shapeCasts_S200000x1_S200000 := by
  after_reads_simp
  rfl

set_option maxRecDepth 100000 in
set_option maxHeartbeats 2000000 in
theorem t0_v23  :
    after (hostOps1 (F := F)) W (Proc.devRef .tc main_v23) = shapeCast S12800000 (W (Proc.devRef .tc main_v20_0)) shapeCasts_S200000x64_S12800000 := by
  after_reads_simp
  rfl

set_option maxRecDepth 100000 in
set_option maxHeartbeats 2000000 in
theorem t0_v25  :
    after (hostOps1 (F := F)) W (Proc.devRef .tc main_v25) = cmpi .ne (after (hostOps1 (F := F)) W (Proc.devRef .tc main_v23)) (broadcastInDim S12800000 ![] bcast_S_S12800000 (constantI S_ 32 2147483647#32)) := by
  after_reads_simp

set_option maxRecDepth 100000 in
set_option maxHeartbeats 2000000 in
theorem t0_v26  :
    after (hostOps1 (F := F)) W (Proc.devRef .tc main_v26) = iotaInDim S200000 32 0 := by
  after_reads_simp

set_option maxRecDepth 100000 in
set_option maxHeartbeats 2000000 in
theorem t0_v28  :
    after (hostOps1 (F := F)) W (Proc.devRef .tc main_v28) = fun _ => 64#32 := by
  after_reads_simp
  rfl

set_option maxRecDepth 100000 in
set_option maxHeartbeats 2000000 in
theorem t1_v29  :
    after (hostOps1_1 (F := F)) W (Proc.devRef .tc main_v29) = roll (W (Proc.devRef .tc main_v28)) := by
  after_reads_simp
  simp (implicitDefEqProofs := false) only [StableHlo.TRef.toBuf, StableHlo.TRef.ofBuf, cast_eq]
  rfl

set_option maxRecDepth 100000 in
set_option maxHeartbeats 2000000 in
theorem t2_v33  :
    after (hostOps1_2 (F := F)) W (Proc.devRef .tc main_v33) = zeroFirst (W (Proc.devRef .tc main_v29)) := by
  after_reads_simp
  rw [id_eq, id_eq]
  rfl

set_option maxRecDepth 100000 in
set_option maxHeartbeats 2000000 in
theorem t3_v34  :
    after (hostOps1_3 (F := F)) W (Proc.devRef .tc main_v34) = sums (W (Proc.devRef .tc main_v33)) := by
  after_reads_simp
  simp (implicitDefEqProofs := false) only [StableHlo.TRef.toBuf, StableHlo.TRef.ofBuf, cast_eq]
  rfl

set_option maxRecDepth 100000 in
set_option maxHeartbeats 2000000 in
theorem t4_v43  :
    after (hostOps1_4 (F := F)) W (Proc.devRef .tc main_v43) = marks (W (Proc.devRef .tc main_v34)) := by
  after_reads_simp
  rfl

set_option maxRecDepth 100000 in
set_option maxHeartbeats 2000000 in
theorem t6_v46  :
    after (hostOps1_6 (F := F)) (after (hostOps1_5 (F := F)) W) (Proc.devRef .tc main_v46) = ranks (W (Proc.devRef .tc main_v43)) := by
  after_reads_simp
  simp (implicitDefEqProofs := false) only [StableHlo.TRef.toBuf, StableHlo.TRef.ofBuf, cast_eq]
  rfl

set_option maxRecDepth 100000 in
set_option maxHeartbeats 2000000 in
theorem t7_v47  :
    after (hostOps1_7 (F := F)) W (Proc.devRef .tc main_v47) = takes (W (Proc.devRef .tc main_v26)) (W (Proc.devRef .tc main_v46)) := by
  after_reads_simp
  simp (implicitDefEqProofs := false) only [StableHlo.TRef.toBuf, StableHlo.TRef.ofBuf, cast_eq]
  rfl

set_option maxRecDepth 100000 in
set_option maxHeartbeats 2000000 in
theorem t12_v91  :
    after (hostOps1_12 (F := F)) W (Proc.devRef .tc main_v91) = reorder (histogram (W (Proc.devRef .tc main_v23)) (W (Proc.devRef .tc main_v25))) (W (Proc.devRef .tc main_c)) := by
  after_reads_simp
  rfl

end Cert.Value

end
-- ==== Proof.Scatter.lean ====
/-
  Counting by scattered addition: where the updates of a scatter land, and when two scatters put the same sum at two
  places.
-/
module

public import proofs.«01_k».proof.Proof.TailB
public import Idealize.ShloMosaic.Lib.Routing.OpsSet
public import Idealize.ShloMosaic.Lib.Routing.OpsPair
public import Idealize.ShloMosaic.Lib.Routing.OpsOne
public import Idealize.ShloMosaic.Lib.Routing.OpsSearch

@[expose] public section

set_option maxRecDepth 16384

noncomputable section

namespace Cert.Value

open Idealize.ShloMosaic Idealize.ShloMosaic.ValueIdx Idealize.ShloMosaic.Routing

/-- An update of the kernel's count of 32768 places lands where its index word, read signed, says. -/
theorem lands_kernel (i : Fin 12800000) (idx : IVec (shape2 12800000 1) 32) (e : Fin 32768) :
    Cert.KernelIdeal.scatter_S32768_S12800000x1_S12800000_n_0_0_1.resultIdx? (ix1 i) idx = some (ix1 e)
      ↔ (idx (ix2 i (0 : Fin 1))).toInt = (e.val : Int) := by
  have hs : Cert.KernelIdeal.scatter_S32768_S12800000x1_S12800000_n_0_0_1.start (ix1 i) idx 0 = (idx (ix2 i (0 : Fin 1))).toInt := by
    unfold ScatterDims.start
    rw [dif_pos (by decide)]
    refine congrArg (fun j => (idx j).toInt) (funext fun b => ?_)
    match b with
    | ⟨0, _⟩ => rfl
    | ⟨1, _⟩ => rfl
  have hw : Cert.KernelIdeal.scatter_S32768_S12800000x1_S12800000_n_0_0_1.window (ix1 i) 0 = 0 := by
    unfold ScatterDims.window
    rw [dif_neg (by decide)]
  refine (resultIdx?_ix1 _ _ _ _).trans ?_
  rw [hs, hw]
  omega

/-- So does an update of the reference's count. -/
theorem lands_reference (i : Fin 12800000) (idx : IVec (shape2 12800000 1) 32) (e : Fin 32768) :
    Cert.ReferenceIdeal.scatter_S32768_S12800000x1_S12800000_n_0_0_1.resultIdx? (ix1 i) idx = some (ix1 e)
      ↔ (idx (ix2 i (0 : Fin 1))).toInt = (e.val : Int) := by
  have hs : Cert.ReferenceIdeal.scatter_S32768_S12800000x1_S12800000_n_0_0_1.start (ix1 i) idx 0 = (idx (ix2 i (0 : Fin 1))).toInt := by
    unfold ScatterDims.start
    rw [dif_pos (by decide)]
    refine congrArg (fun j => (idx j).toInt) (funext fun b => ?_)
    match b with
    | ⟨0, _⟩ => rfl
    | ⟨1, _⟩ => rfl
  have hw : Cert.ReferenceIdeal.scatter_S32768_S12800000x1_S12800000_n_0_0_1.window (ix1 i) 0 = 0 := by
    unfold ScatterDims.window
    rw [dif_neg (by decide)]
  refine (resultIdx?_ix1 _ _ _ _).trans ?_
  rw [hs, hw]
  omega

/-- So does a mark of one of 12800000 places. -/
theorem lands_mark (i : Fin 200000) (idx : IVec (shape2 200000 1) 32) (e : Fin 12800000) :
    Cert.KernelIdeal.scatter_S12800000_S200000x1_S200000_n_0_0_1.resultIdx? (ix1 i) idx = some (ix1 e)
      ↔ (idx (ix2 i (0 : Fin 1))).toInt = (e.val : Int) := by
  have hs : Cert.KernelIdeal.scatter_S12800000_S200000x1_S200000_n_0_0_1.start (ix1 i) idx 0 = (idx (ix2 i (0 : Fin 1))).toInt := by
    unfold ScatterDims.start
    rw [dif_pos (by decide)]
    refine congrArg (fun j => (idx j).toInt) (funext fun b => ?_)
    match b with
    | ⟨0, _⟩ => rfl
    | ⟨1, _⟩ => rfl
  have hw : Cert.KernelIdeal.scatter_S12800000_S200000x1_S200000_n_0_0_1.window (ix1 i) 0 = 0 := by
    unfold ScatterDims.window
    rw [dif_neg (by decide)]
  refine (resultIdx?_ix1 _ _ _ _).trans ?_
  rw [hs, hw]
  omega

/-- Two scattered sums agree at two places if, update by update, the two have the same word, and the word is zero or lands at
    both places or at neither. -/
theorem scatter_sum_congr {N M : Nat} (d d' : ScatterDims (shape1 N) (shape2 M 1) (shape1 M)) (x x' : IVec (shape1 N) 32)
    (idx idx' : IVec (shape2 M 1) 32) (u u' : IVec (shape1 M) 32) (e e' : Fin N) (hx : x (ix1 e) = x' (ix1 e'))
    (hu : ∀ n : Fin M, u (ix1 n) = u' (ix1 n))
    (h : ∀ n : Fin M, u (ix1 n) = 0#32 ∨ (d.resultIdx? (ix1 n) idx = some (ix1 e) ↔ d'.resultIdx? (ix1 n) idx' = some (ix1 e'))) :
    Host.scatter d IntOp.addi x idx u (ix1 e) = Host.scatter d' IntOp.addi x' idx' u' (ix1 e') := by
  rw [scatter_at, scatter_at, hx]
  congr 1
  funext a n
  rw [symm1, ← hu]
  rcases h (n.cast (numel1 M)) with h0 | hi
  · rw [h0]
    have z : IntOp.addi a 0#32 = a := BitVec.add_zero a
    rw [z, ite_self, ite_self]
  · by_cases q : d.resultIdx? (ix1 (n.cast (numel1 M))) idx = some (ix1 e)
    · rw [if_pos q, if_pos (hi.1 q)]
    · rw [if_neg q, if_neg fun q' => q (hi.2 q')]

/-- A scatter of ones over zeros counts the updates that land at each place. -/
theorem scatter_ones {N M : Nat} (d : ScatterDims (shape1 N) (shape2 M 1) (shape1 M)) (x : IVec (shape1 N) 32)
    (idx : IVec (shape2 M 1) 32) (u : IVec (shape1 M) 32) (hx : ∀ i, x i = 0#32) (hu : ∀ i, u i = 1#32) (e : Fin N)
    (P : Nat → Prop) [DecidablePred P] (h : ∀ n : Fin M, d.resultIdx? (ix1 n) idx = some (ix1 e) ↔ P n.val) :
    Host.scatter d IntOp.addi x idx u (ix1 e) = BitVec.ofNat 32 (Nat.count P M) := by
  rw [scatter_at, hx]
  have key : ∀ (l : List (Fin (shape1 M).numel)) (z : Nat),
      l.foldl (fun a n => if d.resultIdx? ((shape1 M).rowMajor.symm n) idx = some (ix1 e) then IntOp.addi a (u ((shape1 M).rowMajor.symm n)) else a)
        (BitVec.ofNat 32 z) = BitVec.ofNat 32 (z + l.countP fun n => decide (P n.val)) := by
    intro l
    induction l with
    | nil => intro z; simp
    | cons n l ih =>
      intro z
      rw [List.foldl_cons, symm1, hu, List.countP_cons]
      have hn := h (n.cast (numel1 M))
      by_cases q : P n.val
      · rw [if_pos (hn.2 q)]
        have e1 : IntOp.addi (BitVec.ofNat 32 z) 1#32 = BitVec.ofNat 32 (z + 1) := (BitVec.ofNat_add z 1).symm
        rw [e1, ih, if_pos (decide_eq_true q)]
        congr 1
        omega
      · rw [if_neg fun q' => q (hn.1 q'), ih, if_neg fun q' => q (of_decide_eq_true q'), Nat.add_zero]
  refine (key _ 0).trans ?_
  rw [Nat.zero_add, countP_finRange, numel1]

end Cert.Value

end
-- ==== Proof.Repeat.lean ====
/-
  The repeated sphere numbers: the kernel builds them from 64 ones a sphere, by marks and running sums; place `p` gets
  the number `p / 64`.
-/
module

public import proofs.«01_k».proof.Proof.Scatter
public import Idealize.ShloMosaic.Lib.ReduceAll
public import Idealize.ShloMosaic.Lib.Pipeline.Value

@[expose] public section

set_option maxRecDepth 16384

noncomputable section

namespace Cert.Value

open Cert.KernelIdeal Cert.KernelIdeal.Gen
open Idealize.ShloMosaic Idealize.ShloMosaic.ValueIdx Idealize.ShloMosaic.Routing

/-- Rolling a constant leaves it. -/
theorem roll_const (w : BitVec 32) : roll (fun _ => w) = fun _ => w := by
  funext j
  unfold roll
  by_cases h : (j 0).val = 0
  · refine (concatenate_pair_apply_left (s₁ := S1) (s₂ := S199999) 0 _ _ _ j rfl (ix1 (0 : Fin 1)) fun b => ?_).trans rfl
    match b with
    | ⟨0, _⟩ => exact h.symm
  · have hj : (j 0).val < 200000 := (j 0).isLt
    refine (concatenate_pair_apply_right (s₁ := S1) (s₂ := S199999) 0 _ _ _ j rfl rfl
      (ix1 (⟨(j 0).val - 1, by omega⟩ : Fin 199999)) (fun b hb => ?_) (show (j 0).val - 1 + 1 = (j 0).val by omega)).trans rfl
    match b with
    | ⟨0, _⟩ => exact absurd rfl hb

/-- The steps of the running sum: none to the first sphere, 64 to each other. -/
theorem zeroFirst_at (e : Fin 200000) : zeroFirst (fun _ => 64#32) (ix1 e) = BitVec.ofNat 32 (if e.val = 0 then 0 else 64) := by
  unfold zeroFirst
  refine (scatter_one _ rfl rfl _ _ _ (0 : Fin 200000) (by decide) (bc0 _ _ _) e).trans ?_
  by_cases h : e = 0
  · subst h; rfl
  · rw [if_neg h, if_neg (show ¬ e.val = 0 from fun q => h (Fin.ext q))]

/-- The sum of the steps up to one sphere. -/
theorem steps_sum (n : Nat) : ((List.range (n + 1)).map fun e => if e = 0 then 0 else 64).sum = 64 * n := by
  induction n with
  | zero => rfl
  | succ n ih =>
    rw [List.range_succ, List.map_append, List.sum_append, ih]
    simp
    omega

/-- Sphere `e`'s first place. -/
theorem sums_at (e : Fin 200000) : sums (zeroFirst fun _ => 64#32) (ix1 e) = BitVec.ofNat 32 (64 * e.val) := by
  unfold sums
  refine (cumsum1 (by decide) _ (fun e => if e = 0 then 0 else 64) zeroFirst_at _ (bc0 _ _ _) _ _ e).trans ?_
  rw [steps_sum]

/-- One sphere at most starts at a place. -/
theorem count_starts (q M : Nat) : Nat.count (fun n => 64 * n = q) M = if q % 64 = 0 ∧ q / 64 < M then 1 else 0 := by
  induction M with
  | zero => simp
  | succ M ih =>
    rw [Nat.count_succ, ih]
    split_ifs <;> omega

/-- A position counted from the end is itself when it is small. -/
theorem wrap_at {s : Shape} (h : S_.BroadcastsInDim s ![]) (n : BitVec 32) (v : IVec s 32) (i : s.Idx) (hv : (v i).toNat < 2 ^ 31) :
    wrap h n v i = v i :=
  wrap_of_lt (v i) _ hv

/-- The marks: one at each sphere's first place. -/
theorem marks_at (p : Fin 12800000) : marks (sums (zeroFirst fun _ => 64#32)) (ix1 p) = BitVec.ofNat 32 (if p.val % 64 = 0 then 1 else 0) := by
  have hp := p.isLt
  unfold marks
  refine (scatter_ones _ _ _ _ (fun i => bc0 _ _ i) (fun i => bc0 _ _ i) p (fun n => 64 * n = p.val) fun n => ?_).trans ?_
  · have hn := n.isLt
    refine (lands_mark n _ p).trans ?_
    have hc := bcCol bcast_S200000_S200000x1_0 (wrap bcast_S_S200000 12800000#32 (sums (zeroFirst fun _ => 64#32))) n
    have hw := wrap_at bcast_S_S200000 12800000#32 (sums (zeroFirst fun _ => 64#32)) (ix1 n) (by
      rw [sums_at, BitVec.toNat_ofNat]
      omega)
    rw [hc, hw, sums_at, StableHlo.Predicate.toInt_ofNat_small _ (by omega)]
    omega
  · rw [count_starts]
    congr 1
    split_ifs <;> omega

/-- The marks up to one place. -/
theorem marks_sum (n : Nat) : ((List.range (n + 1)).map fun e => if e % 64 = 0 then 1 else 0).sum = n / 64 + 1 := by
  induction n with
  | zero => rfl
  | succ n ih =>
    rw [List.range_succ, List.map_append, List.sum_append, ih]
    simp
    split_ifs <;> omega

/-- The sphere a place belongs to. -/
theorem ranks_at (p : Fin 12800000) : ranks (marks (sums (zeroFirst fun _ => 64#32))) (ix1 p) = BitVec.ofNat 32 (p.val / 64) := by
  have h := (cumsum1 (N := 12800000) (Nm1 := 12799999) (by decide) (marks (sums (zeroFirst fun _ => 64#32))) (fun e => if e % 64 = 0 then 1 else 0) marks_at
    (broadcastInDim S_ ![] bcast_S_S_ (constantI S_ 32 0#32)) (bc0 _ _ _) reduceWindows_S12800000_S12800000_w12800000s1p12799999_0 h_S_ p)
  rw [marks_sum] at h
  show IntOp.subi _ 1#32 = _
  rw [h]
  apply BitVec.eq_of_toNat_eq
  have hp := p.isLt
  simp only [IntOp.subi, BitVec.toNat_sub, BitVec.toNat_ofNat]
  omega

/-- The places' spheres, taken from the list of numbers. -/
theorem takes_at (p : Fin 12800000) :
    takes (iotaInDim S200000 32 0) (ranks (marks (sums (zeroFirst fun _ => 64#32)))) (ix1 p) = BitVec.ofNat 32 (p.val / 64) := by
  have col : ∀ n : Fin 12800000, column (ranks (marks (sums (zeroFirst fun _ => 64#32)))) (ix2 n (0 : Fin 1)) = BitVec.ofNat 32 (n.val / 64) := by
    intro n
    have hn := n.isLt
    unfold column
    refine (bcCol bcast_S12800000_S12800000x1_0 _ n).trans ?_
    rw [wrap_at _ _ _ _ (by rw [ranks_at, BitVec.toNat_ofNat]; omega), ranks_at]
  have hp := p.isLt
  unfold takes
  generalize column (ranks (marks (sums (zeroFirst fun _ => 64#32)))) = c at col
  have hr : Host.reduce IntOp.andi
      (andi (cmpi .sge c (broadcastInDim S12800000x1 ![] bcast_S_S12800000x1 (constantI S_ 32 0#32)))
        (cmpi .sle c (broadcastInDim S12800000x1 ![0, 1] bcast_S1x1_S12800000x1_0_1
          (broadcastInDim S1x1 ![1] bcast_S1_S1x1_1 (constantI S1 32 199999#32)))))
      (constantI S_ 1 1#1) reducesTo_S12800000x1_S12800000_d1 h_S_ (ix1 p) = 1#1 := by
    refine Host.reduce_andi_one _ _ _ _ _ rfl fun i => ?_
    obtain ⟨n, z, rfl⟩ : ∃ (n : Fin 12800000) (z : Fin 1), i = ix2 n z := ⟨i 0, i 1, eq_ix2 i⟩
    obtain rfl : z = 0 := Subsingleton.elim _ _
    show IntOp.andi (IntOp.cmpi .sge (c (ix2 n 0)) 0#32) (IntOp.cmpi .sle (c (ix2 n 0)) 199999#32) = 1#1
    have hn := n.isLt
    rw [col]
    have e1 : (BitVec.ofNat 32 (n.val / 64)).toInt = (n.val / 64 : Nat) := StableHlo.Predicate.toInt_ofNat_small _ (by omega)
    have a1 : IntOp.cmpi .sge (BitVec.ofNat 32 (n.val / 64)) 0#32 = 1#1 := by
      have : (0#32).toInt = 0 := by decide
      simp only [IntOp.cmpi, BitVec.sle, e1, this]
      rw [decide_eq_true (by omega)]
      rfl
    have a2 : IntOp.cmpi .sle (BitVec.ofNat 32 (n.val / 64)) 199999#32 = 1#1 := by
      have : (199999#32).toInt = 199999 := by decide
      simp only [IntOp.cmpi, BitVec.sle, e1, this]
      rw [decide_eq_true (by omega)]
      rfl
    rw [a1, a2]
    rfl
  show Scalar.select (Host.reduce _ _ _ _ _ (ix1 p)) (Host.gather _ _ _ (ix1 p)) _ = _
  rw [hr, ValueIdx.select_one]
  refine (take_ap gather_S200000_S12800000x1_S12800000_n_0_n_n_0_1_1 rfl rfl rfl rfl _ c p (k := p.val / 64) (by omega) (by omega) (col p)).trans ?_
  rfl

end Cert.Value

end
-- ==== Proof.Digits.lean ====
/-
  Three digits of five bits, interleaved into one word.
-/
module

public import proofs.«01_k».proof.KernelIdeal
public import proofs.«01_k».proof.Proof.Words

@[expose] public section

set_option maxRecDepth 100000

namespace Cert.Words

open Idealize.ShloMosaic Cert.KernelIdeal

/-- Three digits of five bits, interleaved. -/
def weave (x y z : Nat) : BitVec 32 :=
  (spread (BitVec.ofNat 32 x) <<< 2 ||| spread (BitVec.ofNat 32 y) <<< 1) ||| spread (BitVec.ofNat 32 z)

/-- In one block of 1024, the table holds the interleaved digits of each of its positions. -/
abbrev Row (x : Nat) : Prop := ∀ y z : Fin 32, lit0t (x * 1024 + (y.val * 32 + z.val)) = weave x y.val z.val

end Cert.Words

end
-- ==== Proof.Table0.lean ====
/-
  The program's table of 32768 entries, a quarter of it: each entry holds the interleaved digits of its position.
-/
module

public import proofs.«01_k».proof.Proof.Digits

@[expose] public section

set_option maxRecDepth 100000

namespace Cert.Words

theorem row_0 : Row 0 := by decide +kernel

theorem row_1 : Row 1 := by decide +kernel

theorem row_2 : Row 2 := by decide +kernel

theorem row_3 : Row 3 := by decide +kernel

theorem row_4 : Row 4 := by decide +kernel

theorem row_5 : Row 5 := by decide +kernel

theorem row_6 : Row 6 := by decide +kernel

theorem row_7 : Row 7 := by decide +kernel

end Cert.Words

end
-- ==== Proof.Table1.lean ====
/-
  The program's table of 32768 entries, a quarter of it: each entry holds the interleaved digits of its position.
-/
module

public import proofs.«01_k».proof.Proof.Digits

@[expose] public section

set_option maxRecDepth 100000

namespace Cert.Words

theorem row_8 : Row 8 := by decide +kernel

theorem row_9 : Row 9 := by decide +kernel

theorem row_10 : Row 10 := by decide +kernel

theorem row_11 : Row 11 := by decide +kernel

theorem row_12 : Row 12 := by decide +kernel

theorem row_13 : Row 13 := by decide +kernel

theorem row_14 : Row 14 := by decide +kernel

theorem row_15 : Row 15 := by decide +kernel

end Cert.Words

end
-- ==== Proof.Table2.lean ====
/-
  The program's table of 32768 entries, a quarter of it: each entry holds the interleaved digits of its position.
-/
module

public import proofs.«01_k».proof.Proof.Digits

@[expose] public section

set_option maxRecDepth 100000

namespace Cert.Words

theorem row_16 : Row 16 := by decide +kernel

theorem row_17 : Row 17 := by decide +kernel

theorem row_18 : Row 18 := by decide +kernel

theorem row_19 : Row 19 := by decide +kernel

theorem row_20 : Row 20 := by decide +kernel

theorem row_21 : Row 21 := by decide +kernel

theorem row_22 : Row 22 := by decide +kernel

theorem row_23 : Row 23 := by decide +kernel

end Cert.Words

end
-- ==== Proof.Table3.lean ====
/-
  The program's table of 32768 entries, a quarter of it: each entry holds the interleaved digits of its position.
-/
module

public import proofs.«01_k».proof.Proof.Digits

@[expose] public section

set_option maxRecDepth 100000

namespace Cert.Words

theorem row_24 : Row 24 := by decide +kernel

theorem row_25 : Row 25 := by decide +kernel

theorem row_26 : Row 26 := by decide +kernel

theorem row_27 : Row 27 := by decide +kernel

theorem row_28 : Row 28 := by decide +kernel

theorem row_29 : Row 29 := by decide +kernel

theorem row_30 : Row 30 := by decide +kernel

theorem row_31 : Row 31 := by decide +kernel

end Cert.Words

end
-- ==== Proof.Codes.lean ====
/-
  The coarse code of a cell, three times five bits: the kernel reads it off the Morton word, bits interleaved, and the
  reference counts it in three digits of base 32. The program's table of 32768 entries takes the one to the other.
-/
module

public import proofs.«01_k».proof.Proof.Table0
public import proofs.«01_k».proof.Proof.Table1
public import proofs.«01_k».proof.Proof.Table2
public import proofs.«01_k».proof.Proof.Table3
public import proofs.«01_k».proof.Proof.RefRead

@[expose] public section

set_option maxRecDepth 100000

namespace Cert.Words

open Idealize.ShloMosaic Cert.KernelIdeal Cert.RefRead

/-- Every third bit of `w` from bit `k` on, five of them. -/
def pick (k w : Nat) : Nat :=
  w / 2 ^ k % 2 + 2 * (w / 2 ^ (k + 3) % 2) + 4 * (w / 2 ^ (k + 6) % 2) + 8 * (w / 2 ^ (k + 9) % 2) + 16 * (w / 2 ^ (k + 12) % 2)

/-- Every block of the table does. -/
theorem rows (x : Nat) (hx : x < 32) : Row x := by
  interval_cases x
  exacts [row_0, row_1, row_2, row_3, row_4, row_5, row_6, row_7, row_8, row_9, row_10, row_11, row_12, row_13, row_14, row_15, row_16, row_17, row_18, row_19, row_20, row_21, row_22, row_23, row_24, row_25, row_26, row_27, row_28, row_29, row_30, row_31]

/-- The table holds the interleaved digits of each of its positions. -/
theorem table_digits (x y z : Fin 32) : lit0t (x.val * 1024 + (y.val * 32 + z.val)) = weave x.val y.val z.val :=
  rows x.val x.isLt y z

set_option maxHeartbeats 2000000 in
/-- The digits come back out of the interleaved word, which is below 32768. -/
theorem weave_digits : ∀ x y z : Fin 32, (weave x.val y.val z.val).toNat < 32768 ∧ pick 2 (weave x.val y.val z.val).toNat = x.val
    ∧ pick 1 (weave x.val y.val z.val).toNat = y.val ∧ pick 0 (weave x.val y.val z.val).toNat = z.val := by decide +kernel

set_option maxHeartbeats 2000000 in
/-- A spread coordinate, fifteen places down, is the coordinate's upper five bits spread; and it leaves the top two bits free. -/
theorem spread_down : ∀ x : Fin 1024, spread (BitVec.ofNat 32 x.val) >>> 15 = spread (BitVec.ofNat 32 (x.val / 32))
    ∧ (spread (BitVec.ofNat 32 x.val) <<< 1) >>> 15 = spread (BitVec.ofNat 32 (x.val / 32)) <<< 1
    ∧ (spread (BitVec.ofNat 32 x.val) <<< 2) >>> 15 = spread (BitVec.ofNat 32 (x.val / 32)) <<< 2
    ∧ (spread (BitVec.ofNat 32 x.val)) >>> 30 = 0#32 ∧ (spread (BitVec.ofNat 32 x.val) <<< 1) >>> 30 = 0#32
    ∧ (spread (BitVec.ofNat 32 x.val) <<< 2) >>> 30 = 0#32 := by decide +kernel

set_option maxHeartbeats 2000000 in
/-- Clipping a coordinate to ten bits, and its upper part to five. -/
theorem clip_small : ∀ n : Fin 1027, clip 1023#32 (BitVec.ofNat 32 n.val) = BitVec.ofNat 32 (min n.val 1023)
    ∧ clip 31#32 ((BitVec.ofNat 32 n.val).sshiftRight 5) = BitVec.ofNat 32 (min n.val 1023 / 32) := by decide +kernel

/-- A clipped word is at most its bound. -/
theorem clip_le (w : BitVec 32) : (clip 1023#32 w).toNat ≤ 1023 := by
  unfold clip IntOp.minsi IntOp.maxsi
  simp only [BitVec.slt, BitVec.sle, decide_eq_true_eq, BitVec.toInt_eq_toNat_cond]
  have := w.isLt
  split_ifs <;> simp_all <;> omega

/-- A word whose lowest coordinate is a clipped one and which is at most three cells further on is a small number. -/
theorem add_small (w : BitVec 32) (a : Fin 4) : ∃ n : Fin 1027, clip 1023#32 w + BitVec.ofNat 32 a.val = BitVec.ofNat 32 n.val := by
  have h := clip_le w
  have ha := a.isLt
  refine ⟨⟨(clip 1023#32 w).toNat + a.val, by omega⟩, ?_⟩
  apply BitVec.eq_of_toNat_eq
  rw [BitVec.toNat_add, BitVec.toNat_ofNat, BitVec.toNat_ofNat]
  simp

/-- What the two codes of the cell at coordinates `x`, `y`, `z` are. -/
theorem codes (x y z : Fin 1027) : ∃ p q r : Fin 32,
    levelOne (BitVec.ofNat 32 x.val) (BitVec.ofNat 32 y.val) (BitVec.ofNat 32 z.val) = BitVec.ofNat 32 (p.val * 1024 + (q.val * 32 + r.val))
    ∧ (morton (BitVec.ofNat 32 x.val) (BitVec.ofNat 32 y.val) (BitVec.ofNat 32 z.val)).sshiftRight 15 = weave p.val q.val r.val
    ∧ (morton (BitVec.ofNat 32 x.val) (BitVec.ofNat 32 y.val) (BitVec.ofNat 32 z.val)).toNat < 2 ^ 30 := by
  have hx := x.isLt
  have hy := y.isLt
  have hz := z.isLt
  obtain ⟨cx, dx⟩ := clip_small x
  obtain ⟨cy, dy⟩ := clip_small y
  obtain ⟨cz, dz⟩ := clip_small z
  obtain ⟨-, -, x1, -, -, x2⟩ := spread_down ⟨min x.val 1023, by omega⟩
  obtain ⟨-, y1, -, -, y2, -⟩ := spread_down ⟨min y.val 1023, by omega⟩
  obtain ⟨z1, -, -, z2, -, -⟩ := spread_down ⟨min z.val 1023, by omega⟩
  have e30 : morton (BitVec.ofNat 32 x.val) (BitVec.ofNat 32 y.val) (BitVec.ofNat 32 z.val) >>> 30 = 0#32 := by
    unfold morton
    rw [cx, cy, cz, BitVec.ushiftRight_or_distrib, BitVec.ushiftRight_or_distrib, x2, y2, z2]
    rfl
  have lt30 : (morton (BitVec.ofNat 32 x.val) (BitVec.ofNat 32 y.val) (BitVec.ofNat 32 z.val)).toNat < 2 ^ 30 := by
    have e := congrArg BitVec.toNat e30
    rw [BitVec.toNat_ushiftRight, Nat.shiftRight_eq_div_pow] at e
    have : (0#32).toNat = 0 := rfl
    omega
  refine ⟨⟨min x.val 1023 / 32, by omega⟩, ⟨min y.val 1023 / 32, by omega⟩, ⟨min z.val 1023 / 32, by omega⟩, ?_, ?_, lt30⟩
  · unfold levelOne
    rw [dx, dy, dz]
    apply BitVec.eq_of_toNat_eq
    simp only [BitVec.toNat_add, BitVec.toNat_mul, BitVec.toNat_ofNat]
    omega
  · rw [BitVec.sshiftRight_eq_of_msb_false (by rw [BitVec.msb_eq_false_iff_two_mul_lt]; omega)]
    unfold morton weave
    rw [cx, cy, cz, BitVec.ushiftRight_or_distrib, BitVec.ushiftRight_or_distrib, x1, y1, z1]

end Cert.Words

end
-- ==== Proof.Keys.lean ====
/-
  The slots of all spheres in one list: the word of slot `n`, whether it is in use, and its coarse code, from three
  small coordinates.
-/
module

public import proofs.«01_k».proof.Proof.Codes

@[expose] public section

set_option maxRecDepth 16384

noncomputable section

namespace Cert.RefRead

open Idealize.ShloMosaic Idealize.ShloMosaic.ValueIdx
open Cert.ReferenceIdeal Cert.ReferenceIdeal.Read Cert.Words

variable (x0 : S200000x3.Idx → Elt Ideal .f32) (x1 : S200000.Idx → Elt Ideal .f32)

/-- The lowest cells lie in the grid, so a slot's coordinates are small. -/
theorem lo_small (i : Fin 200000) (k : Fin 3) (a : Fin 4) : ∃ n : Fin 1027, lo x0 x1 i k + BitVec.ofNat 32 a.val = BitVec.ofNat 32 n.val := by
  unfold lo low cell
  exact add_small _ a

/-- Slot `n`: its word, its use and its coarse code. -/
theorem slot_at (n : Fin 12800000) : ∃ x y z : Fin 1027,
    val_main_v210 x0 x1 (ix1 n) = Scalar.select (val_main_v212 x0 x1 (ix1 n))
      (morton (BitVec.ofNat 32 x.val) (BitVec.ofNat 32 y.val) (BitVec.ofNat 32 z.val)) 2147483647#32
    ∧ val_main_v213 x0 x1 (ix1 n) = levelOne (BitVec.ofNat 32 x.val) (BitVec.ofNat 32 y.val) (BitVec.ofNat 32 z.val) := by
  have hn := n.isLt
  have e : ∀ j : S200000x4x4x4.Idx, j = ix4 (j 0) (j 1) (j 2) (j 3) := fun j => funext fun d => by fin_cases d <;> rfl
  rw [val_main_v210_apply, val_main_v212_apply, val_main_v213_apply]
  have e1 : idx_main_v212 (ix1 n) = idx_main_v210 (ix1 n) := rfl
  have e2 : idx_main_v213 (ix1 n) = idx_main_v210 (ix1 n) := rfl
  rw [e1, e2, e (idx_main_v210 (ix1 n))]
  generalize (idx_main_v210 (ix1 n)) = j
  obtain ⟨x, hx⟩ := lo_small x0 x1 (j 0) 0 (j 1)
  obtain ⟨y, hy⟩ := lo_small x0 x1 (j 0) 1 (j 2)
  obtain ⟨z, hz⟩ := lo_small x0 x1 (j 0) 2 (j 3)
  refine ⟨x, y, z, ?_, ?_⟩
  · refine (v187_at x0 x1 (j 0) (j 1) (j 2) (j 3)).trans ?_
    rw [hx, hy, hz]
    exact congrArg (fun b => Scalar.select b _ _) (v109_at x0 x1 (j 0) (j 1) (j 2) (j 3)).symm
  · refine (v209_at x0 x1 (j 0) (j 1) (j 2) (j 3)).trans ?_
    rw [hx, hy, hz]

/-- A bit is zero or one. -/
theorem bit_cases : ∀ b : BitVec 1, b = 0#1 ∨ b = 1#1 := by decide

/-- A slot is in use exactly when its word is not the largest. -/
theorem used_at (n : Fin 12800000) : IntOp.cmpi .ne (val_main_v210 x0 x1 (ix1 n)) 2147483647#32 = val_main_v212 x0 x1 (ix1 n) := by
  obtain ⟨x, y, z, h, -⟩ := slot_at x0 x1 n
  obtain ⟨-, -, -, -, -, lt⟩ := codes x y z
  rw [h]
  rcases bit_cases (val_main_v212 x0 x1 (ix1 n)) with hb | hb
  · rw [hb]; rfl
  · rw [hb]
    have ne : morton (BitVec.ofNat 32 x.val) (BitVec.ofNat 32 y.val) (BitVec.ofNat 32 z.val) ≠ 2147483647#32 := fun q => by
      rw [q] at lt
      revert lt
      decide
    rw [ValueIdx.select_one]
    unfold IntOp.cmpi
    simp only [bne_iff_ne.2 ne]
    rfl

/-- A slot in use has three digits that make up both codes. -/
theorem codes_at (n : Fin 12800000) : val_main_v212 x0 x1 (ix1 n) = 0#1 ∨ ∃ p q r : Fin 32,
    val_main_v213 x0 x1 (ix1 n) = BitVec.ofNat 32 (p.val * 1024 + (q.val * 32 + r.val))
    ∧ (val_main_v210 x0 x1 (ix1 n)).sshiftRight 15 = weave p.val q.val r.val := by
  obtain ⟨x, y, z, h, h'⟩ := slot_at x0 x1 n
  obtain ⟨p, q, r, e, e', -⟩ := codes x y z
  rcases bit_cases (val_main_v212 x0 x1 (ix1 n)) with hb | hb
  · exact Or.inl hb
  · refine Or.inr ⟨p, q, r, h'.trans e, ?_⟩
    rw [h, hb]
    exact e'

end Cert.RefRead

end
-- ==== Proof.Histo.lean ====
/-
  The coarse histogram: the kernel counts the interleaved codes and reads the counts through the table; the reference
  counts the codes in base 32. The counts are the same.
-/
module

public import proofs.«01_k».proof.Proof.Repeat
public import proofs.«01_k».proof.Proof.Keys

@[expose] public section

set_option maxRecDepth 16384

noncomputable section

namespace Cert.Value

open Cert.KernelIdeal Cert.KernelIdeal.Gen
open Idealize.ShloMosaic Idealize.ShloMosaic.ValueIdx Idealize.ShloMosaic.Routing
open Cert.ReferenceIdeal.Read Cert.RefRead Cert.Words

variable (x0 : S200000x3.Idx → Elt Ideal .f32) (x1 : S200000.Idx → Elt Ideal .f32)

/-- The table, as a vector. -/
def table : IVec S32768 32 := fun i => lit0 (S32768.rowMajor i)

theorem table_at (l : Fin 32768) : table (ix1 l) = lit0t l.val := by
  have h : ∀ q : Fin 32768, lit0 q = lit0t q.val := fun q => rfl
  unfold table
  refine (h _).trans (congrArg lit0t ?_)
  rw [Shape.rowMajor_val_one]

/-- The three digits of a place. -/
theorem place_digits (l : Fin 32768) : ∃ p q r : Fin 32, l.val = p.val * 1024 + (q.val * 32 + r.val) := by
  have := l.isLt
  exact ⟨⟨l.val / 1024, by omega⟩, ⟨l.val / 32 % 32, by omega⟩, ⟨l.val % 32, by omega⟩, by show l.val = l.val / 1024 * 1024 + (l.val / 32 % 32 * 32 + l.val % 32); omega⟩

/-- The kernel's index word of slot `n`. -/
theorem kernel_index (v : IVec S12800000 32) (n : Fin 12800000) (w : BitVec 32) (hw : (v (ix1 n)).sshiftRight 15 = w) (hs : w.toNat < 32768) :
    broadcastInDim S12800000x1 ![0] bcast_S12800000_S12800000x1_0 (wrap bcast_S_S12800000 32768#32
      (Host.shrsi v (broadcastInDim S12800000 ![] bcast_S_S12800000 (constantI S_ 32 15#32)))) (ix2 n (0 : Fin 1)) = w := by
  have e : Host.shrsi v (broadcastInDim S12800000 ![] bcast_S_S12800000 (constantI S_ 32 15#32)) (ix1 n) = w := by
    refine Eq.trans ?_ hw
    exact shrsi_lt .host (v (ix1 n)) 15 (by decide)
  refine (bcCol bcast_S12800000_S12800000x1_0 _ n).trans ?_
  rw [wrap_at _ _ _ _ (by rw [e]; omega), e]

/-- The reference's. -/
theorem reference_index (n : Fin 12800000) (k : Nat) (hk : k < 32768) (h : val_main_v213 x0 x1 (ix1 n) = BitVec.ofNat 32 k) :
    val_main_v244 x0 x1 (ix2 n (0 : Fin 1)) = BitVec.ofNat 32 k := by
  have e : idx_main_v244 (ix2 n (0 : Fin 1)) = ix1 n := funext fun d => by fin_cases d; rfl
  rw [val_main_v244_apply, e, val_main_v243_apply, val_main_v240_apply, h]
  refine wrap_of_lt _ _ ?_
  rw [BitVec.toNat_ofNat]
  omega

/-- The counts, through the table. -/
theorem histogram_at (l : Fin 32768) :
    reorder (histogram (val_main_v210 x0 x1) (val_main_v212 x0 x1)) table (ix1 l) = val_main_v245 x0 x1 (ix1 l) := by
  obtain ⟨p, q, r, hl⟩ := place_digits l
  obtain ⟨hk, h2, h1, h0⟩ := weave_digits p q r
  have ht : table (ix1 l) = weave p.val q.val r.val := by rw [table_at, hl, table_digits]
  have hi : broadcastInDim S32768x1 ![0] bcast_S32768_S32768x1_0 (wrap bcast_S_S32768 32768#32 table) (ix2 l (0 : Fin 1))
      = BitVec.ofNat 32 (weave p.val q.val r.val).toNat := by
    refine (bcCol bcast_S32768_S32768x1_0 _ l).trans ?_
    rw [wrap_at _ _ _ _ (by rw [ht]; omega), ht, BitVec.ofNat_toNat, BitVec.setWidth_eq]
  unfold reorder
  refine (take_ap gather_S32768_S32768x1_S32768_n_0_n_n_0_1_1 rfl rfl rfl rfl _ _ l hk (by omega) hi).trans ?_
  unfold histogram val_main_v245
  refine scatter_sum_congr _ _ _ _ _ _ _ _ _ _ ((bc0 _ _ _).trans (bc0 _ _ _).symm) (fun n => rfl) fun n => ?_
  rcases codes_at x0 x1 n with hb | ⟨P, Q, R, e, e'⟩
  · left
    show (val_main_v212 x0 x1 (ix1 n)).setWidth 32 = 0#32
    rw [hb]
    rfl
  · right
    obtain ⟨Hk, H2, H1, H0⟩ := weave_digits P Q R
    have hP := P.isLt
    have hQ := Q.isLt
    have hR := R.isLt
    have hp := p.isLt
    have hq := q.isLt
    have hr := r.isLt
    refine (lands_kernel n _ _).trans (Iff.trans ?_ (lands_reference n _ _).symm)
    rw [kernel_index _ n _ e' Hk, reference_index x0 x1 n _ (by omega) e, StableHlo.Predicate.toInt_ofNat_small _ (by omega),
      BitVec.toInt_eq_toNat_of_lt (by omega), hl]
    constructor
    · intro h
      have hw : (weave P.val Q.val R.val).toNat = (weave p.val q.val r.val).toNat := Int.ofNat.inj h
      rw [hw] at H2 H1 H0
      rw [← H2, ← H1, ← H0, h2, h1, h0]
    · intro h
      have h' : P.val * 1024 + (Q.val * 32 + R.val) = p.val * 1024 + (q.val * 32 + r.val) := Int.ofNat.inj h
      obtain rfl : P = p := Fin.ext (by omega)
      obtain rfl : Q = q := Fin.ext (by omega)
      obtain rfl : R = r := Fin.ext (by omega)
      rfl

/-- The histogram is the reference's. -/
theorem histogram_eq : reorder (histogram (val_main_v210 x0 x1) (val_main_v212 x0 x1)) table = val_main_v245 x0 x1 := by
  funext j
  obtain ⟨l, rfl⟩ : ∃ l : Fin 32768, j = ix1 l := ⟨j 0, eq_ix1 j⟩
  exact histogram_at x0 x1 l

/-- The slots in use are the reference's. -/
theorem used_eq : cmpi .ne (val_main_v210 x0 x1) (broadcastInDim S12800000 ![] bcast_S_S12800000 (constantI S_ 32 2147483647#32)) = val_main_v212 x0 x1 := by
  funext j
  obtain ⟨n, rfl⟩ : ∃ n : Fin 12800000, j = ix1 n := ⟨j 0, eq_ix1 j⟩
  exact used_at x0 x1 n

/-- The repeated sphere numbers are the reference's. -/
theorem repeat_eq : takes (iotaInDim S200000 32 0) (ranks (marks (sums (zeroFirst (roll fun _ => 64#32))))) = val_main_v211 (F := Ideal) := by
  rw [roll_const]
  funext j
  obtain ⟨p, rfl⟩ : ∃ p : Fin 12800000, j = ix1 p := ⟨j 0, eq_ix1 j⟩
  have e : ∀ j : Cert.ReferenceIdeal.S200000x4x4x4.Idx, j = ix4 (j 0) (j 1) (j 2) (j 3) := fun j => funext fun d => by fin_cases d <;> rfl
  rw [takes_at, val_main_v211_apply, e (idx_main_v211 (ix1 p))]
  exact (v190_at (idx_main_v211 (ix1 p) 0) (idx_main_v211 (ix1 p) 1) (idx_main_v211 (ix1 p) 2) (idx_main_v211 (ix1 p) 3)).symm

end Cert.Value

end
-- ==== Proof.TailA.lean ====
/-
  The host operations after the launch that are the reference's own: each result from the values it is computed from.
-/
module

public import proofs.«01_k».proof.Proof.Gen.KernelIdeal.Frame
public import proofs.«01_k».proof.Proof.Gen.ReferenceIdeal.Read
public import Idealize.ShloMosaic.Lib.ValueIdxCore
public import Idealize.ShloMosaic.Lib.StableHlo.RunRead

@[expose] public section

set_option maxRecDepth 16384

noncomputable section

namespace Cert.Value

open Cert.KernelIdeal Cert.KernelIdeal.Gen
open Idealize.ShloMosaic
open Idealize.ShloMosaic.TcCoe Idealize.ShloMosaic.Tactic Idealize.ShloMosaic.ValueIdx
open Idealize.ShloMosaic.StableHlo (after TRef.binary TRef.nullary TRef.ternary TRef.unary TRef.toBuf TRef.ofBuf)
open Cert.ReferenceIdeal.Read

/-- The contents of one device's buffers. -/
local notation "Mem" => Valuation τ sig

variable {F : FTy → Type} [FloatOps F]
variable (W : Mem (Elt F)) (x0 : S200000x3.Idx → Elt F .f32) (x1 : S200000.Idx → Elt F .f32)

set_option maxRecDepth 100000 in
set_option maxHeartbeats 2000000 in
theorem t9_v49 (h0 : W (Proc.devRef .tc main_v21) = val_main_v50 x0 x1) :
    after (hostOps1_9 (F := F)) W (Proc.devRef .tc main_v49) = val_main_v52 x0 x1 := by
  after_reads_simp
  rw [h0]
  simp (implicitDefEqProofs := false) only [StableHlo.TRef.toBuf, StableHlo.TRef.ofBuf, cast_eq]
  rfl

set_option maxRecDepth 100000 in
set_option maxHeartbeats 2000000 in
theorem t8_v48  :
    after (hostOps1_8 (F := F)) W (Proc.devRef .tc main_v48) = val_main_v51 := by
  after_reads_simp
  rfl

set_option maxRecDepth 100000 in
set_option maxHeartbeats 2000000 in
theorem t10_v50 (h0 : W (Proc.devRef .tc main_v48) = val_main_v51) (h1 : W (Proc.devRef .tc main_v49) = val_main_v52 x0 x1) :
    after (hostOps1_10 (F := F)) W (Proc.devRef .tc main_v50) = val_main_v53 x0 x1 := by
  after_reads_simp
  show concatenate S200001 0 [⟨S1, W (Proc.devRef .tc main_v48)⟩, ⟨S200000, W (Proc.devRef .tc main_v49)⟩]
    concatenates_S1_S200000_S200001_d0 = _
  rw [h0, h1]
  rfl

set_option maxRecDepth 100000 in
set_option maxHeartbeats 2000000 in
theorem t10_v51 (h0 : W (Proc.devRef .tc main_v21) = val_main_v50 x0 x1) :
    after (hostOps1_10 (F := F)) W (Proc.devRef .tc main_v51) = val_main_v236 x0 x1 := by
  after_reads_simp
  rw [h0]
  rfl

set_option maxRecDepth 100000 in
set_option maxHeartbeats 2000000 in
theorem t11_v52 (h0 : W (Proc.devRef .tc main_v23) = val_main_v210 x0 x1) :
    after (hostOps1_11 (F := F)) W (Proc.devRef .tc main_v52) = val_main_v214 x0 x1 := by
  after_reads_simp
  rw [h0]
  simp (implicitDefEqProofs := false) only [StableHlo.TRef.toBuf, StableHlo.TRef.ofBuf, cast_eq]
  rfl

set_option maxRecDepth 100000 in
set_option maxHeartbeats 2000000 in
theorem t12_v59 (h0 : W (Proc.devRef .tc main_v52) = val_main_v214 x0 x1) (h1 : W (Proc.devRef .tc main_v23) = val_main_v210 x0 x1) :
    after (hostOps1_12 (F := F)) W (Proc.devRef .tc main_v59) = val_main_v221 x0 x1 := by
  after_reads_simp
  rw [h0, h1]
  rfl

set_option maxRecDepth 100000 in
set_option maxHeartbeats 2000000 in
theorem t12_v66 (h0 : W (Proc.devRef .tc main_v52) = val_main_v214 x0 x1) (h1 : W (Proc.devRef .tc main_v47) = val_main_v211) :
    after (hostOps1_12 (F := F)) W (Proc.devRef .tc main_v66) = val_main_v228 x0 x1 := by
  after_reads_simp
  rw [h0, h1]
  rfl

set_option maxRecDepth 100000 in
set_option maxHeartbeats 2000000 in
theorem t12_v73 (h0 : W (Proc.devRef .tc main_v52) = val_main_v214 x0 x1) (h1 : W (Proc.devRef .tc main_v25) = val_main_v212 x0 x1) :
    after (hostOps1_12 (F := F)) W (Proc.devRef .tc main_v73) = val_main_v235 x0 x1 := by
  after_reads_simp
  rw [h0, h1]
  rfl

set_option maxRecDepth 100000 in
set_option maxHeartbeats 2000000 in
theorem t13_v92 (h0 : W (Proc.devRef .tc main_v91) = val_main_v245 x0 x1) :
    after (hostOps1_13 (F := F)) W (Proc.devRef .tc main_v92) = val_main_v246 x0 x1 := by
  after_reads_simp
  rw [h0]
  simp (implicitDefEqProofs := false) only [StableHlo.TRef.toBuf, StableHlo.TRef.ofBuf, cast_eq]
  rfl

set_option maxRecDepth 100000 in
set_option maxHeartbeats 2000000 in
theorem t14_v93 (h0 : W (Proc.devRef .tc main_v92) = val_main_v246 x0 x1) (h1 : W (Proc.devRef .tc main_v91) = val_main_v245 x0 x1) :
    after (hostOps1_14 (F := F)) W (Proc.devRef .tc main_v93) = val_main_v247 x0 x1 := by
  after_reads_simp
  rw [h0, h1]
  rfl

set_option maxRecDepth 100000 in
set_option maxHeartbeats 2000000 in
theorem t14_v95 (h0 : W (Proc.devRef .tc main_v91) = val_main_v245 x0 x1) :
    after (hostOps1_14 (F := F)) W (Proc.devRef .tc main_v95) = val_main_v249 x0 x1 := by
  after_reads_simp
  rw [h0]
  rfl

set_option maxRecDepth 100000 in
set_option maxHeartbeats 2000000 in
theorem t14_c  :
    after (hostOps1_14 (F := F)) W (Proc.devRef .tc main_c_29) = val_main_c_69 := by
  after_reads_simp
  rfl

set_option maxRecDepth 100000 in
set_option maxHeartbeats 2000000 in
theorem t15_v96 (h0 : W (Proc.devRef .tc main_v95) = val_main_v249 x0 x1) (h1 : W (Proc.devRef .tc main_v93) = val_main_v247 x0 x1) (h2 : W (Proc.devRef .tc main_c_29) = val_main_c_69) :
    after (hostOps1_15 (F := F)) W (Proc.devRef .tc main_v96) = val_main_v250 x0 x1 := by
  after_reads_simp
  rw [h0, h1, h2]
  simp (implicitDefEqProofs := false) only [StableHlo.TRef.toBuf, StableHlo.TRef.ofBuf, cast_eq]
  rfl

set_option maxRecDepth 100000 in
set_option maxHeartbeats 2000000 in
theorem t16_v103 (h0 : W (Proc.devRef .tc main_v59) = val_main_v221 x0 x1) (h1 : W (Proc.devRef .tc main_v73) = val_main_v235 x0 x1) :
    after (hostOps1_16 (F := F)) W (Proc.devRef .tc main_v103) = val_main_v257 x0 x1 := by
  have e97 : StableHlo.upto (hostOps1_16 (F := F)) W 3 (Proc.devRef .tc main_v97) = val_main_v251 := by
    after_reads_simp
    rfl
  have e98 : StableHlo.upto (hostOps1_16 (F := F)) W 3 (Proc.devRef .tc main_v98) = val_main_v252 x0 x1 := by
    after_reads_simp
    rw [h0]
    rfl
  after_reads_simp
  rw [h0, h1, e97, e98]
  rfl

end Cert.Value

end
-- ==== Proof.Tail.lean ====
/-
  The host operations after the launch, one after another: from the three arrays the launch stores to the results, each
  in terms of the reference's own stages.
-/
module

public import proofs.«01_k».proof.Proof.Histo
public import proofs.«01_k».proof.Proof.TailA

@[expose] public section

set_option maxRecDepth 16384

noncomputable section

namespace Cert.Value

open Cert.KernelIdeal Cert.KernelIdeal.Gen
open Idealize.ShloMosaic
open Idealize.ShloMosaic.TcCoe Idealize.ShloMosaic.ValueIdx
open Idealize.ShloMosaic.StableHlo (after)
open Cert.ReferenceIdeal.Read

/-- The contents of one device's buffers. -/
local notation "Mem" => Valuation τ sig (Elt Ideal)

variable (T : Mem)

/-- The contents after the first stage. -/
def tail1 : Mem := after (hostOps1 (F := Ideal)) T
/-- The contents after the first 2 stages. -/
def tail2 : Mem := after (hostOps1_1 (F := Ideal)) (tail1 T)
/-- The contents after the first 3 stages. -/
def tail3 : Mem := after (hostOps1_2 (F := Ideal)) (tail2 T)
/-- The contents after the first 4 stages. -/
def tail4 : Mem := after (hostOps1_3 (F := Ideal)) (tail3 T)
/-- The contents after the first 5 stages. -/
def tail5 : Mem := after (hostOps1_4 (F := Ideal)) (tail4 T)
/-- The contents after the first 6 stages. -/
def tail6 : Mem := after (hostOps1_5 (F := Ideal)) (tail5 T)
/-- The contents after the first 7 stages. -/
def tail7 : Mem := after (hostOps1_6 (F := Ideal)) (tail6 T)
/-- The contents after the first 8 stages. -/
def tail8 : Mem := after (hostOps1_7 (F := Ideal)) (tail7 T)
/-- The contents after the first 9 stages. -/
def tail9 : Mem := after (hostOps1_8 (F := Ideal)) (tail8 T)
/-- The contents after the first 10 stages. -/
def tail10 : Mem := after (hostOps1_9 (F := Ideal)) (tail9 T)
/-- The contents after the first 11 stages. -/
def tail11 : Mem := after (hostOps1_10 (F := Ideal)) (tail10 T)
/-- The contents after the first 12 stages. -/
def tail12 : Mem := after (hostOps1_11 (F := Ideal)) (tail11 T)
/-- The contents after the first 13 stages. -/
def tail13 : Mem := after (hostOps1_12 (F := Ideal)) (tail12 T)
/-- The contents after the first 14 stages. -/
def tail14 : Mem := after (hostOps1_13 (F := Ideal)) (tail13 T)
/-- The contents after the first 15 stages. -/
def tail15 : Mem := after (hostOps1_14 (F := Ideal)) (tail14 T)
/-- The contents after the first 16 stages. -/
def tail16 : Mem := after (hostOps1_15 (F := Ideal)) (tail15 T)
/-- The contents after the first 17 stages. -/
def tail17 : Mem := after (hostOps1_16 (F := Ideal)) (tail16 T)

theorem keep1 (b : Ref sig .tc) (h : b ∉ hostOps1_W) : tail1 T (Proc.devRef .tc b) = T (Proc.devRef .tc b) :=
  StableHlo.after_of_writes_sub hostOps1 T hostOps1_writes h

theorem keep2 (b : Ref sig .tc) (h : b ∉ hostOps1_1_W) : tail2 T (Proc.devRef .tc b) = tail1 T (Proc.devRef .tc b) :=
  StableHlo.after_of_writes_sub hostOps1_1 (tail1 T) hostOps1_1_writes h

theorem keep3 (b : Ref sig .tc) (h : b ∉ hostOps1_2_W) : tail3 T (Proc.devRef .tc b) = tail2 T (Proc.devRef .tc b) :=
  StableHlo.after_of_writes_sub hostOps1_2 (tail2 T) hostOps1_2_writes h

theorem keep4 (b : Ref sig .tc) (h : b ∉ hostOps1_3_W) : tail4 T (Proc.devRef .tc b) = tail3 T (Proc.devRef .tc b) :=
  StableHlo.after_of_writes_sub hostOps1_3 (tail3 T) hostOps1_3_writes h

theorem keep5 (b : Ref sig .tc) (h : b ∉ hostOps1_4_W) : tail5 T (Proc.devRef .tc b) = tail4 T (Proc.devRef .tc b) :=
  StableHlo.after_of_writes_sub hostOps1_4 (tail4 T) hostOps1_4_writes h

theorem keep6 (b : Ref sig .tc) (h : b ∉ hostOps1_5_W) : tail6 T (Proc.devRef .tc b) = tail5 T (Proc.devRef .tc b) :=
  StableHlo.after_of_writes_sub hostOps1_5 (tail5 T) hostOps1_5_writes h

theorem keep7 (b : Ref sig .tc) (h : b ∉ hostOps1_6_W) : tail7 T (Proc.devRef .tc b) = tail6 T (Proc.devRef .tc b) :=
  StableHlo.after_of_writes_sub hostOps1_6 (tail6 T) hostOps1_6_writes h

theorem keep8 (b : Ref sig .tc) (h : b ∉ hostOps1_7_W) : tail8 T (Proc.devRef .tc b) = tail7 T (Proc.devRef .tc b) :=
  StableHlo.after_of_writes_sub hostOps1_7 (tail7 T) hostOps1_7_writes h

theorem keep9 (b : Ref sig .tc) (h : b ∉ hostOps1_8_W) : tail9 T (Proc.devRef .tc b) = tail8 T (Proc.devRef .tc b) :=
  StableHlo.after_of_writes_sub hostOps1_8 (tail8 T) hostOps1_8_writes h

theorem keep10 (b : Ref sig .tc) (h : b ∉ hostOps1_9_W) : tail10 T (Proc.devRef .tc b) = tail9 T (Proc.devRef .tc b) :=
  StableHlo.after_of_writes_sub hostOps1_9 (tail9 T) hostOps1_9_writes h

theorem keep11 (b : Ref sig .tc) (h : b ∉ hostOps1_10_W) : tail11 T (Proc.devRef .tc b) = tail10 T (Proc.devRef .tc b) :=
  StableHlo.after_of_writes_sub hostOps1_10 (tail10 T) hostOps1_10_writes h

theorem keep12 (b : Ref sig .tc) (h : b ∉ hostOps1_11_W) : tail12 T (Proc.devRef .tc b) = tail11 T (Proc.devRef .tc b) :=
  StableHlo.after_of_writes_sub hostOps1_11 (tail11 T) hostOps1_11_writes h

theorem keep13 (b : Ref sig .tc) (h : b ∉ hostOps1_12_W) : tail13 T (Proc.devRef .tc b) = tail12 T (Proc.devRef .tc b) :=
  StableHlo.after_of_writes_sub hostOps1_12 (tail12 T) hostOps1_12_writes h

theorem keep14 (b : Ref sig .tc) (h : b ∉ hostOps1_13_W) : tail14 T (Proc.devRef .tc b) = tail13 T (Proc.devRef .tc b) :=
  StableHlo.after_of_writes_sub hostOps1_13 (tail13 T) hostOps1_13_writes h

theorem keep15 (b : Ref sig .tc) (h : b ∉ hostOps1_14_W) : tail15 T (Proc.devRef .tc b) = tail14 T (Proc.devRef .tc b) :=
  StableHlo.after_of_writes_sub hostOps1_14 (tail14 T) hostOps1_14_writes h

theorem keep16 (b : Ref sig .tc) (h : b ∉ hostOps1_15_W) : tail16 T (Proc.devRef .tc b) = tail15 T (Proc.devRef .tc b) :=
  StableHlo.after_of_writes_sub hostOps1_15 (tail15 T) hostOps1_15_writes h

theorem keep17 (b : Ref sig .tc) (h : b ∉ hostOps1_16_W) : tail17 T (Proc.devRef .tc b) = tail16 T (Proc.devRef .tc b) :=
  StableHlo.after_of_writes_sub hostOps1_16 (tail16 T) hostOps1_16_writes h

variable (x0 : S200000x3.Idx → Elt Ideal .f32) (x1 : S200000.Idx → Elt Ideal .f32)

/-- What the launch leaves: the three arrays and the table. -/
structure Launched : Prop where
  words : T (Proc.devRef .tc main_v20_0) = fun i : S200000x64.Idx => val_main_v187 x0 x1 (ix4 (i 0)
    (⟨(i 1).val / 16, by have := (i 1).isLt; change _ < 64 at this; omega⟩ : Fin 4) (⟨(i 1).val / 4 % 4, by omega⟩ : Fin 4) (⟨(i 1).val % 4, by omega⟩ : Fin 4))
  counts : T (Proc.devRef .tc main_v20_1) = fun i : S200000x1.Idx => val_main_v50 x0 x1 (ix1 (i 0))
  overs : T (Proc.devRef .tc main_v20_2) = fun i : S200000x1.Idx => val_main_v259 x0 x1 (ix1 (i 0))
  codes : T (Proc.devRef .tc main_c) = table

variable {T x0 x1} (h : Launched T x0 x1)

/-- A column of 200000 words as a vector. -/
theorem flat_column (v : IVec S200000 32) :
    shapeCast S200000 (fun i : S200000x1.Idx => v (ix1 (i 0))) shapeCasts_S200000x1_S200000 = v := by
  funext j
  obtain ⟨p, rfl⟩ : ∃ p : Fin 200000, j = ix1 p := ⟨j 0, eq_ix1 j⟩
  exact Routing.cast21 (fun i : S200000x1.Idx => v (ix1 (i 0))) shapeCasts_S200000x1_S200000 p 0 p (by show p.val = p.val * 1 + 0; omega)

include h

theorem s1_v21 : tail1 T (Proc.devRef .tc main_v21) = val_main_v50 x0 x1 := by
  refine (t0_v21 T).trans ?_
  rw [h.counts]
  exact flat_column _

theorem s1_v22 : tail1 T (Proc.devRef .tc main_v22) = val_main_v259 x0 x1 := by
  refine (t0_v22 T).trans ?_
  rw [h.overs]
  exact flat_column _

theorem s1_v23 : tail1 T (Proc.devRef .tc main_v23) = val_main_v210 x0 x1 := by
  refine (t0_v23 T).trans ?_
  rw [h.words]
  funext j
  obtain ⟨p, rfl⟩ : ∃ p : Fin 12800000, j = ix1 p := ⟨j 0, eq_ix1 j⟩
  have hp := p.isLt
  refine (Routing.cast21 _ shapeCasts_S200000x64_S12800000 (⟨p.val / 64, by omega⟩ : Fin 200000) (⟨p.val % 64, by omega⟩ : Fin 64) p
    (by show p.val = p.val / 64 * 64 + p.val % 64; omega)).trans ?_
  rw [val_main_v210_apply]
  refine congrArg (val_main_v187 x0 x1) (funext fun d => Fin.ext ?_)
  match d with
  | ⟨0, _⟩ => rfl
  | ⟨1, _⟩ => show p.val % 64 / 16 = p.val / 16 % 4; omega
  | ⟨2, _⟩ => show p.val % 64 / 4 % 4 = p.val / 4 % 4; omega
  | ⟨3, _⟩ => show p.val % 64 % 4 = p.val % 4; omega

theorem s1_v25 : tail1 T (Proc.devRef .tc main_v25) = val_main_v212 x0 x1 := by
  refine (t0_v25 T).trans ?_
  have e : after (hostOps1 (F := Ideal)) T (Proc.devRef .tc main_v23) = val_main_v210 x0 x1 := s1_v23 h
  rw [e]
  exact used_eq x0 x1

omit h in
theorem s8_v47 : tail8 T (Proc.devRef .tc main_v47) = val_main_v211 (F := Ideal) := by
  have e26 : tail7 T (Proc.devRef .tc main_v26) = iotaInDim S200000 32 0 := by
    rw [keep7 T _ (by decide +kernel), keep6 T _ (by decide +kernel), keep5 T _ (by decide +kernel), keep4 T _ (by decide +kernel),
      keep3 T _ (by decide +kernel), keep2 T _ (by decide +kernel)]
    exact t0_v26 T
  have e29 : tail2 T (Proc.devRef .tc main_v29) = roll fun _ => 64#32 := (t1_v29 (tail1 T)).trans (congrArg roll (t0_v28 T))
  have e33 : tail3 T (Proc.devRef .tc main_v33) = zeroFirst (roll fun _ => 64#32) := (t2_v33 (tail2 T)).trans (congrArg zeroFirst e29)
  have e34 : tail4 T (Proc.devRef .tc main_v34) = sums (zeroFirst (roll fun _ => 64#32)) := (t3_v34 (tail3 T)).trans (congrArg sums e33)
  have e43 : tail5 T (Proc.devRef .tc main_v43) = marks (sums (zeroFirst (roll fun _ => 64#32))) := (t4_v43 (tail4 T)).trans (congrArg marks e34)
  have e46 : tail7 T (Proc.devRef .tc main_v46) = ranks (marks (sums (zeroFirst (roll fun _ => 64#32)))) := (t6_v46 (tail5 T)).trans (congrArg ranks e43)
  refine (t7_v47 (tail7 T)).trans ?_
  rw [e26, e46]
  exact repeat_eq

theorem s9_v21 : tail9 T (Proc.devRef .tc main_v21) = val_main_v50 x0 x1 := by
  rw [keep9 T _ (by decide +kernel), keep8 T _ (by decide +kernel), keep7 T _ (by decide +kernel), keep6 T _ (by decide +kernel), keep5 T _ (by decide +kernel), keep4 T _ (by decide +kernel), keep3 T _ (by decide +kernel), keep2 T _ (by decide +kernel)]
  exact s1_v21 h

theorem s10_v21 : tail10 T (Proc.devRef .tc main_v21) = val_main_v50 x0 x1 := by
  rw [keep10 T _ (by decide +kernel)]
  exact s9_v21 h

theorem s17_v21 : tail17 T (Proc.devRef .tc main_v21) = val_main_v50 x0 x1 := by
  rw [keep17 T _ (by decide +kernel), keep16 T _ (by decide +kernel), keep15 T _ (by decide +kernel), keep14 T _ (by decide +kernel), keep13 T _ (by decide +kernel), keep12 T _ (by decide +kernel), keep11 T _ (by decide +kernel)]
  exact s10_v21 h

theorem s17_v22 : tail17 T (Proc.devRef .tc main_v22) = val_main_v259 x0 x1 := by
  rw [keep17 T _ (by decide +kernel), keep16 T _ (by decide +kernel), keep15 T _ (by decide +kernel), keep14 T _ (by decide +kernel), keep13 T _ (by decide +kernel), keep12 T _ (by decide +kernel), keep11 T _ (by decide +kernel), keep10 T _ (by decide +kernel), keep9 T _ (by decide +kernel), keep8 T _ (by decide +kernel), keep7 T _ (by decide +kernel), keep6 T _ (by decide +kernel), keep5 T _ (by decide +kernel), keep4 T _ (by decide +kernel), keep3 T _ (by decide +kernel), keep2 T _ (by decide +kernel)]
  exact s1_v22 h

theorem s11_v23 : tail11 T (Proc.devRef .tc main_v23) = val_main_v210 x0 x1 := by
  rw [keep11 T _ (by decide +kernel), keep10 T _ (by decide +kernel), keep9 T _ (by decide +kernel), keep8 T _ (by decide +kernel), keep7 T _ (by decide +kernel), keep6 T _ (by decide +kernel), keep5 T _ (by decide +kernel), keep4 T _ (by decide +kernel), keep3 T _ (by decide +kernel), keep2 T _ (by decide +kernel)]
  exact s1_v23 h

theorem s12_v23 : tail12 T (Proc.devRef .tc main_v23) = val_main_v210 x0 x1 := by
  rw [keep12 T _ (by decide +kernel)]
  exact s11_v23 h

theorem s12_v25 : tail12 T (Proc.devRef .tc main_v25) = val_main_v212 x0 x1 := by
  rw [keep12 T _ (by decide +kernel), keep11 T _ (by decide +kernel), keep10 T _ (by decide +kernel), keep9 T _ (by decide +kernel), keep8 T _ (by decide +kernel), keep7 T _ (by decide +kernel), keep6 T _ (by decide +kernel), keep5 T _ (by decide +kernel), keep4 T _ (by decide +kernel), keep3 T _ (by decide +kernel), keep2 T _ (by decide +kernel)]
  exact s1_v25 h

omit h in
theorem s12_v47 : tail12 T (Proc.devRef .tc main_v47) = val_main_v211 (F := Ideal) := by
  rw [keep12 T _ (by decide +kernel), keep11 T _ (by decide +kernel), keep10 T _ (by decide +kernel), keep9 T _ (by decide +kernel)]
  exact s8_v47

theorem s12_c : tail12 T (Proc.devRef .tc main_c) = table := by
  rw [keep12 T _ (by decide +kernel), keep11 T _ (by decide +kernel), keep10 T _ (by decide +kernel), keep9 T _ (by decide +kernel), keep8 T _ (by decide +kernel), keep7 T _ (by decide +kernel), keep6 T _ (by decide +kernel), keep5 T _ (by decide +kernel), keep4 T _ (by decide +kernel), keep3 T _ (by decide +kernel), keep2 T _ (by decide +kernel), keep1 T _ (by decide +kernel)]
  exact h.codes

omit h in
theorem s9_v48 : tail9 T (Proc.devRef .tc main_v48) = val_main_v51 (F := Ideal) :=
  t8_v48 (tail8 T)

omit h in
theorem s10_v48 : tail10 T (Proc.devRef .tc main_v48) = val_main_v51 (F := Ideal) := by
  rw [keep10 T _ (by decide +kernel)]
  exact s9_v48

theorem s10_v49 : tail10 T (Proc.devRef .tc main_v49) = val_main_v52 x0 x1 :=
  t9_v49 (tail9 T) x0 x1 (s9_v21 h)

theorem s11_v50 : tail11 T (Proc.devRef .tc main_v50) = val_main_v53 x0 x1 :=
  t10_v50 (tail10 T) x0 x1 s10_v48 (s10_v49 h)

theorem s11_v51 : tail11 T (Proc.devRef .tc main_v51) = val_main_v236 x0 x1 :=
  t10_v51 (tail10 T) x0 x1 (s10_v21 h)

theorem s17_v50 : tail17 T (Proc.devRef .tc main_v50) = val_main_v53 x0 x1 := by
  rw [keep17 T _ (by decide +kernel), keep16 T _ (by decide +kernel), keep15 T _ (by decide +kernel), keep14 T _ (by decide +kernel), keep13 T _ (by decide +kernel), keep12 T _ (by decide +kernel)]
  exact s11_v50 h

theorem s17_v51 : tail17 T (Proc.devRef .tc main_v51) = val_main_v236 x0 x1 := by
  rw [keep17 T _ (by decide +kernel), keep16 T _ (by decide +kernel), keep15 T _ (by decide +kernel), keep14 T _ (by decide +kernel), keep13 T _ (by decide +kernel), keep12 T _ (by decide +kernel)]
  exact s11_v51 h

theorem s12_v52 : tail12 T (Proc.devRef .tc main_v52) = val_main_v214 x0 x1 :=
  t11_v52 (tail11 T) x0 x1 (s11_v23 h)

theorem s13_v59 : tail13 T (Proc.devRef .tc main_v59) = val_main_v221 x0 x1 :=
  t12_v59 (tail12 T) x0 x1 (s12_v52 h) (s12_v23 h)

theorem s13_v66 : tail13 T (Proc.devRef .tc main_v66) = val_main_v228 x0 x1 :=
  t12_v66 (tail12 T) x0 x1 (s12_v52 h) s12_v47

theorem s13_v73 : tail13 T (Proc.devRef .tc main_v73) = val_main_v235 x0 x1 :=
  t12_v73 (tail12 T) x0 x1 (s12_v52 h) (s12_v25 h)

theorem s13_v91 : tail13 T (Proc.devRef .tc main_v91) = val_main_v245 x0 x1 := by
  refine (t12_v91 (tail12 T)).trans ?_
  rw [s12_v23 h, s12_v25 h, s12_c h]
  exact histogram_eq x0 x1

theorem s14_v91 : tail14 T (Proc.devRef .tc main_v91) = val_main_v245 x0 x1 := by
  rw [keep14 T _ (by decide +kernel)]
  exact s13_v91 h

theorem s14_v92 : tail14 T (Proc.devRef .tc main_v92) = val_main_v246 x0 x1 :=
  t13_v92 (tail13 T) x0 x1 (s13_v91 h)

theorem s15_v93 : tail15 T (Proc.devRef .tc main_v93) = val_main_v247 x0 x1 :=
  t14_v93 (tail14 T) x0 x1 (s14_v92 h) (s14_v91 h)

theorem s15_v95 : tail15 T (Proc.devRef .tc main_v95) = val_main_v249 x0 x1 :=
  t14_v95 (tail14 T) x0 x1 (s14_v91 h)

theorem s16_v96 : tail16 T (Proc.devRef .tc main_v96) = val_main_v250 x0 x1 :=
  t15_v96 (tail15 T) x0 x1 (s15_v95 h) (s15_v93 h) (t14_c (tail14 T))

theorem s17_v96 : tail17 T (Proc.devRef .tc main_v96) = val_main_v250 x0 x1 := by
  rw [keep17 T _ (by decide +kernel)]
  exact s16_v96 h

theorem s16_v59 : tail16 T (Proc.devRef .tc main_v59) = val_main_v221 x0 x1 := by
  rw [keep16 T _ (by decide +kernel), keep15 T _ (by decide +kernel), keep14 T _ (by decide +kernel)]
  exact s13_v59 h

theorem s16_v73 : tail16 T (Proc.devRef .tc main_v73) = val_main_v235 x0 x1 := by
  rw [keep16 T _ (by decide +kernel), keep15 T _ (by decide +kernel), keep14 T _ (by decide +kernel)]
  exact s13_v73 h

theorem s17_v59 : tail17 T (Proc.devRef .tc main_v59) = val_main_v221 x0 x1 := by
  rw [keep17 T _ (by decide +kernel)]
  exact s16_v59 h

theorem s17_v66 : tail17 T (Proc.devRef .tc main_v66) = val_main_v228 x0 x1 := by
  rw [keep17 T _ (by decide +kernel), keep16 T _ (by decide +kernel), keep15 T _ (by decide +kernel), keep14 T _ (by decide +kernel)]
  exact s13_v66 h

theorem s17_v103 : tail17 T (Proc.devRef .tc main_v103) = val_main_v257 x0 x1 :=
  t16_v103 (tail16 T) x0 x1 (s16_v59 h) (s16_v73 h)

omit h in
theorem s17_v11 : tail17 T (Proc.devRef .tc main_v11) = T (Proc.devRef .tc main_v11) := by
  rw [keep17 T _ (by decide +kernel), keep16 T _ (by decide +kernel), keep15 T _ (by decide +kernel), keep14 T _ (by decide +kernel), keep13 T _ (by decide +kernel), keep12 T _ (by decide +kernel), keep11 T _ (by decide +kernel), keep10 T _ (by decide +kernel), keep9 T _ (by decide +kernel), keep8 T _ (by decide +kernel), keep7 T _ (by decide +kernel), keep6 T _ (by decide +kernel), keep5 T _ (by decide +kernel), keep4 T _ (by decide +kernel), keep3 T _ (by decide +kernel), keep2 T _ (by decide +kernel), keep1 T _ (by decide +kernel)]

omit h in
theorem s17_v16 : tail17 T (Proc.devRef .tc main_v16) = T (Proc.devRef .tc main_v16) := by
  rw [keep17 T _ (by decide +kernel), keep16 T _ (by decide +kernel), keep15 T _ (by decide +kernel), keep14 T _ (by decide +kernel), keep13 T _ (by decide +kernel), keep12 T _ (by decide +kernel), keep11 T _ (by decide +kernel), keep10 T _ (by decide +kernel), keep9 T _ (by decide +kernel), keep8 T _ (by decide +kernel), keep7 T _ (by decide +kernel), keep6 T _ (by decide +kernel), keep5 T _ (by decide +kernel), keep4 T _ (by decide +kernel), keep3 T _ (by decide +kernel), keep2 T _ (by decide +kernel), keep1 T _ (by decide +kernel)]

end Cert.Value

end
-- ==== Proof.Results.lean ====
/-
  The two runs, each ending in the same ten stages of the reference computation of its own arguments.
-/
module

public import proofs.«01_k».proof.Proof.Entry
public import proofs.«01_k».proof.Proof.Tail
public import proofs.«01_k».proof.Proof.Gen.ReferenceIdeal.Run

@[expose] public section

set_option maxRecDepth 16384

noncomputable section

namespace Cert.Value

open Idealize.ShloMosaic hiding ix0 ix1 ix2 ix3 ix4
open Idealize.ShloMosaic.TcCoe Idealize.ShloMosaic.ValueIdx Idealize.SL.Sem
open Idealize.ShloMosaic.StableHlo (after after_append launchContents)
open Cert.ReferenceIdeal.Read

section Kernel

open Cert.KernelIdeal Cert.KernelIdeal.Gen

variable (m : (ℓ : Loc nD τ sig) → Buf (Elt Ideal) ℓ) (c : Dev nD)

/-- What the launch leaves on one device. -/
def left : Valuation τ sig (Elt Ideal) :=
  Pipeline.withArrays (cfgs 0).spec c (V0 m c) fun w => (dats m 0 c).arrAt w (cfgs 0).N

/-- No two windows have the same array. -/
theorem arrays_apart : Function.Injective (Pipeline.arrRef spec0) := by decide

theorem left_arr (w : Fin cfg0.W) : left m c (Proc.devRef .tc (Pipeline.arrRef spec0 w)) = (dats m 0 c).arrAt w cfg0.N :=
  Pipeline.withArrays_arr _ arrays_apart c (V0 m c) _ w

theorem left_rest (b : Ref sig .tc) (hb : ∀ w, Pipeline.arrRef spec0 w ≠ b) : left m c (Proc.devRef .tc b) = V0 m c (Proc.devRef .tc b) :=
  Pipeline.withArrays_of_ne _ c (V0 m c) _ b hb

/-- The launch leaves the words, counts and overs of the reference, and the table. -/
theorem launched : Launched (left m c) (cen m c) (radii m c) where
  words := (left_arr m c 3).trans (words_arr (entry m c))
  counts := (left_arr m c 4).trans (counts_arr (entry m c))
  overs := (left_arr m c 5).trans (overs_arr (entry m c))
  codes := (left_rest m c main_c (by decide)).trans (V_c m c)

/-- The contents at the end. -/
theorem last_eq (b : Ref sig .tc) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c b = tail17 (left m c) (Proc.devRef .tc b) := by
  unfold Pipeline.afterTail₀
  simp (implicitDefEqProofs := false) only [List.flatten_cons, List.flatten_nil, List.append_nil, after_append]
  rfl

/-- The kernel program's run. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v59) = val_main_v221 (cen m c) (radii m c)
      ∧ r.2.mem ((c.tc : Thread nD τ).loc main_v66) = val_main_v228 (cen m c) (radii m c)
      ∧ r.2.mem ((c.tc : Thread nD τ).loc main_v96) = val_main_v250 (cen m c) (radii m c)
      ∧ r.2.mem ((c.tc : Thread nD τ).loc main_v21) = val_main_v50 (cen m c) (radii m c)
      ∧ r.2.mem ((c.tc : Thread nD τ).loc main_v50) = val_main_v53 (cen m c) (radii m c)
      ∧ r.2.mem ((c.tc : Thread nD τ).loc main_v51) = val_main_v236 (cen m c) (radii m c)
      ∧ r.2.mem ((c.tc : Thread nD τ).loc main_v103) = val_main_v257 (cen m c) (radii m c)
      ∧ r.2.mem ((c.tc : Thread nD τ).loc main_v22) = val_main_v259 (cen m c) (radii m c)
      ∧ r.2.mem ((c.tc : Thread nD τ).loc main_v11) = val_main_v11 (cen m c) (radii m c)
      ∧ r.2.mem ((c.tc : Thread nD τ).loc main_v16) = val_main_v16 (cen m c) (radii m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (unchanged m ρ) (run_main m ρ))
  obtain ⟨hu, h⟩ := h
  have at_ (b : Ref sig .tc) (hs : b.isScoped = false) (ha : ∀ w, (spec0 w).arr.view.ref ≠ b) :
      r.2.mem ((c.tc : Thread nD τ).loc b) = tail17 (left m c) (Proc.devRef .tc b) :=
    ((h c).2 b (Pipeline.mem_restRefs_of b hs ha)).trans (last_eq m c b)
  have L := launched m c
  exact ⟨(at_ main_v59 (by decide) (by decide)).trans (s17_v59 L),
    (at_ main_v66 (by decide) (by decide)).trans (s17_v66 L),
    (at_ main_v96 (by decide) (by decide)).trans (s17_v96 L),
    (at_ main_v21 (by decide) (by decide)).trans (s17_v21 L),
    (at_ main_v50 (by decide) (by decide)).trans (s17_v50 L),
    (at_ main_v51 (by decide) (by decide)).trans (s17_v51 L),
    (at_ main_v103 (by decide) (by decide)).trans (s17_v103 L),
    (at_ main_v22 (by decide) (by decide)).trans (s17_v22 L),
    (at_ main_v11 (by decide) (by decide)).trans ((s17_v11 (T := left m c)).trans ((left_rest m c main_v11 (by decide)).trans (V_v11 m c))),
    (at_ main_v16 (by decide) (by decide)).trans ((s17_v16 (T := left m c)).trans ((left_rest m c main_v16 (by decide)).trans (V_v16 m c))),
    hu c⟩

end Kernel

section Reference

open Cert.ReferenceIdeal

/-- The reference program's run. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v221) = val_main_v221 (F := Ideal) (m ((c.tc : Thread nD τ).loc main_arg0)) (m ((c.tc : Thread nD τ).loc main_arg1))
      ∧ r.2.mem ((c.tc : Thread nD τ).loc main_v228) = val_main_v228 (F := Ideal) (m ((c.tc : Thread nD τ).loc main_arg0)) (m ((c.tc : Thread nD τ).loc main_arg1))
      ∧ r.2.mem ((c.tc : Thread nD τ).loc main_v250) = val_main_v250 (F := Ideal) (m ((c.tc : Thread nD τ).loc main_arg0)) (m ((c.tc : Thread nD τ).loc main_arg1))
      ∧ r.2.mem ((c.tc : Thread nD τ).loc main_v50) = val_main_v50 (F := Ideal) (m ((c.tc : Thread nD τ).loc main_arg0)) (m ((c.tc : Thread nD τ).loc main_arg1))
      ∧ r.2.mem ((c.tc : Thread nD τ).loc main_v53) = val_main_v53 (F := Ideal) (m ((c.tc : Thread nD τ).loc main_arg0)) (m ((c.tc : Thread nD τ).loc main_arg1))
      ∧ r.2.mem ((c.tc : Thread nD τ).loc main_v236) = val_main_v236 (F := Ideal) (m ((c.tc : Thread nD τ).loc main_arg0)) (m ((c.tc : Thread nD τ).loc main_arg1))
      ∧ r.2.mem ((c.tc : Thread nD τ).loc main_v257) = val_main_v257 (F := Ideal) (m ((c.tc : Thread nD τ).loc main_arg0)) (m ((c.tc : Thread nD τ).loc main_arg1))
      ∧ r.2.mem ((c.tc : Thread nD τ).loc main_v259) = val_main_v259 (F := Ideal) (m ((c.tc : Thread nD τ).loc main_arg0)) (m ((c.tc : Thread nD τ).loc main_arg1))
      ∧ r.2.mem ((c.tc : Thread nD τ).loc main_v11) = val_main_v11 (F := Ideal) (m ((c.tc : Thread nD τ).loc main_arg0)) (m ((c.tc : Thread nD τ).loc main_arg1))
      ∧ r.2.mem ((c.tc : Thread nD τ).loc main_v16) = val_main_v16 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.ReferenceIdeal.Value.run (F := Ideal) m ρ)
  obtain ⟨h0, h1, h2, h3, h4, h5, h6, h7, h8, h9, hu⟩ := h c
  exact ⟨h0.trans (val_main_v221_eq (launchContents m c)),
    h1.trans (val_main_v228_eq (launchContents m c)),
    h2.trans (val_main_v250_eq (launchContents m c)),
    h3.trans (val_main_v50_eq (launchContents m c)),
    h4.trans (val_main_v53_eq (launchContents m c)),
    h5.trans (val_main_v236_eq (launchContents m c)),
    h6.trans (val_main_v257_eq (launchContents m c)),
    h7.trans (val_main_v259_eq (launchContents m c)),
    h8.trans (val_main_v11_eq (launchContents m c)),
    h9.trans (val_main_v16_eq (launchContents m c)),
    hu⟩

end Reference

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Results
public import Idealize.ShloMosaic.Adequacy
public import Idealize.ShloMosaic.Init

@[expose] public section

noncomputable section

namespace Cert.Proof

open Idealize.ShloMosaic Idealize.SL.Sem

/-- The reference runs, its arguments end unchanged, and no semaphore is left raised (it declares none). -/
theorem frame_reference : Cert.quiescent_ReferenceIdeal (hReferenceIdeal := Cert.ReferenceIdeal.Gen.facts) := fun m ρ _ =>
  (θ_run Cert.ReferenceIdeal.defs _ _).mono
    (fun r h => ⟨fun c => ⟨(h c).2.2.2.2.2.2.2.2.2.2.1, (h c).2.2.2.2.2.2.2.2.2.2.2⟩,
      Idealize.ShloMosaic.sem_eq_zero_of_no_sems (by decide) r.2⟩)
    (Cert.ReferenceIdeal.Value.run (F := Ideal) m ρ)

/-- From equal arguments the two programs end with equal results: both hold the reference's stages of those arguments. -/
theorem algebraic : Cert.algebraic_KernelIdeal_ReferenceIdeal (hKernelIdeal := Cert.KernelIdeal.Gen.facts)
    (hReferenceIdeal := Cert.ReferenceIdeal.Gen.facts) := by
  intro m g m' g' _ hargs
  have hr := Cert.Value.run_reference m' g'
  refine ⟨_, _, _, _, _, _, _, _, _, _, Cert.Value.run_kernel m g, (θ_run Cert.ReferenceIdeal.defs _ _).mono (fun r h c => ?_) hr⟩
  have h' := h c
  rw [(hargs c).1, (hargs c).2] at h'
  rw [(hargs c).1, (hargs c).2]
  exact h'

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
